-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x1x6656 : Shape := ⟨3, ![256, 1, 6656]⟩
abbrev S6656x4608 : Shape := ⟨2, ![6656, 4608]⟩
abbrev S52x36 : Shape := ⟨2, ![52, 36]⟩
abbrev S256x52x128 : Shape := ⟨3, ![256, 52, 128]⟩
abbrev S_ : Shape := ⟨0, ![]⟩
abbrev S256x52 : Shape := ⟨2, ![256, 52]⟩

class Facts : Prop where
  bitsLt_bf16_f32 : FTy.bits .bf16 < FTy.bits .f32
  shapeCasts_S256x1x6656_S256x52x128 : S256x1x6656.ShapeCasts S256x52x128
  reducesTo_S256x52x128_S256x52_d2 : S256x52x128.ReducesTo [2] S256x52
  h_S_ : 0 < S_.numel
  bcast_S_S256x1x6656 : S_.BroadcastsInDim S256x1x6656 (![] : Fin 0 → Fin S256x1x6656.rank)
  reducesTo_S256x1x6656_S_d0_1_2 : S256x1x6656.ReducesTo [0, 1, 2] S_
  bcast_S_S256x52 : S_.BroadcastsInDim S256x52 (![] : Fin 0 → Fin S256x52.rank)
  reducesTo_S256x52_S_d0_1 : S256x52.ReducesTo [0, 1] S_
  bcast_S_S52x36 : S_.BroadcastsInDim S52x36 (![] : Fin 0 → Fin S52x36.rank)
  reducesTo_S52x36_S_d0_1 : S52x36.ReducesTo [0, 1] S_

variable [Facts]

def fn_part1 {F : FTy → Type} [FloatOps F] (main_arg2 : FVec F S52x36 .f32) (main_v16 : IVec S_ 1) : IVec S_ 1 :=
  let main_cst_5 : FVec F S_ .f32 := constant S_ .f32 0x00000000#32
  let main_v17 : FVec F S52x36 .f32 := broadcastInDim S52x36 ![] bcast_S_S52x36 main_cst_5
  let main_v18 : IVec S52x36 1 := cmpf .oge main_arg2 main_v17
  let main_cst_6 : FVec F S_ .f32 := constant S_ .f32 0x7F800000#32
  let main_v19 : FVec F S52x36 .f32 := broadcastInDim S52x36 ![] bcast_S_S52x36 main_cst_6
  let main_v20 : IVec S52x36 1 := cmpf .olt main_arg2 main_v19
  let main_v21 : IVec S52x36 1 := andi main_v18 main_v20
  let main_c_7 : IVec S_ 1 := constantI S_ 1 1#1
  let main_v22 : IVec S_ 1 := (fun x v => Host.reduce IntOp.andi x v reducesTo_S52x36_S_d0_1 h_S_) main_v21 main_c_7
  let main_v23 : IVec S_ 1 := andi main_v16 main_v22
  main_v23

def fn {F : FTy → Type} [FloatOps F] (main_arg0 : FVec F S256x1x6656 .bf16) (main_arg1 : FVec F S6656x4608 .fp8e4m3) (main_arg2 : FVec F S52x36 .f32) : IVec S_ 1 :=
  let main_v0 : FVec F S256x1x6656 .f32 := (extf .f32 · bitsLt_bf16_f32) main_arg0
  let main_v1 : FVec F S256x52x128 .f32 := shapeCast S256x52x128 main_v0 shapeCasts_S256x1x6656_S256x52x128
  let main_v2 : FVec F S256x52x128 .f32 := Host.absf main_v1
  let main_cst : FVec F S_ .f32 := constant S_ .f32 0xFF800000#32
  let main_v3 : FVec F S256x52 .f32 := (fun x v => Host.reduce FloatOps.maximumf x v reducesTo_S256x52x128_S256x52_d2 h_S_) main_v2 main_cst
  let main_v4 : FVec F S256x1x6656 .bf16 := Host.absf main_arg0
  let main_cst_0 : FVec F S_ .bf16 := constant S_ .bf16 0x7F7F#16
  let main_v5 : FVec F S256x1x6656 .bf16 := broadcastInDim S256x1x6656 ![] bcast_S_S256x1x6656 main_cst_0
  let main_v6 : IVec S256x1x6656 1 := cmpf .ole main_v4 main_v5
  let main_c : IVec S_ 1 := constantI S_ 1 1#1
  let main_v7 : IVec S_ 1 := (fun x v => Host.reduce IntOp.andi x v reducesTo_S256x1x6656_S_d0_1_2 h_S_) main_v6 main_c
  let main_cst_1 : FVec F S_ .f32 := constant S_ .f32 0x00000000#32
  let main_v8 : FVec F S256x52 .f32 := broadcastInDim S256x52 ![] bcast_S_S256x52 main_cst_1
  let main_v9 : IVec S256x52 1 := cmpf .oeq main_v3 main_v8
  let main_cst_2 : FVec F S_ .f32 := constant S_ .f32 0x3B124925#32
  let main_v10 : FVec F S256x52 .f32 := broadcastInDim S256x52 ![] bcast_S_S256x52 main_cst_2
  let main_v11 : FVec F S256x52 .f32 := mulf main_v3 main_v10
  let main_cst_3 : FVec F S_ .f32 := constant S_ .f32 0x00800000#32
  let main_v12 : FVec F S256x52 .f32 := broadcastInDim S256x52 ![] bcast_S_S256x52 main_cst_3
  let main_v13 : IVec S256x52 1 := cmpf .oge main_v11 main_v12
  let main_v14 : IVec S256x52 1 := ori main_v9 main_v13
  let main_c_4 : IVec S_ 1 := constantI S_ 1 1#1
  let main_v15 : IVec S_ 1 := (fun x v => Host.reduce IntOp.andi x v reducesTo_S256x52_S_d0_1 h_S_) main_v14 main_c_4
  let main_v16 : IVec S_ 1 := andi main_v7 main_v15
  fn_part1 (F := F) main_arg2 main_v16
-- ==== Kernel.lean ====
abbrev S256x1x6656 : Shape := ⟨3, ![256, 1, 6656]⟩
abbrev S6656x4608 : Shape := ⟨2, ![6656, 4608]⟩
abbrev S52x36 : Shape := ⟨2, ![52, 36]⟩
abbrev S256x6656 : Shape := ⟨2, ![256, 6656]⟩
abbrev S256x4608 : Shape := ⟨2, ![256, 4608]⟩
abbrev S256x52 : Shape := ⟨2, ![256, 52]⟩
abbrev S6656x512 : Shape := ⟨2, ![6656, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x1 : Shape := ⟨2, ![1, 1]⟩
abbrev S128x128 : Shape := ⟨2, ![128, 128]⟩

abbrev nBuf : Space → Nat
  | .hbm => 7
  | .vmem => 8
  | .smem => 1
  | _ => 0

abbrev bufTy : (tb : Table) → Fin (tcTables nBuf tb) → BufTy
  | .hbm, ⟨0, _⟩ => ⟨S256x1x6656, .bf16⟩
  | .hbm, ⟨1, _⟩ => ⟨S6656x4608, .fp8e4m3⟩
  | .hbm, ⟨2, _⟩ => ⟨S52x36, .f32⟩
  | .hbm, ⟨3, _⟩ => ⟨S256x6656, .bf16⟩
  | .hbm, ⟨4, _⟩ => ⟨S256x4608, .bf16⟩
  | .hbm, ⟨5, _⟩ => ⟨S256x6656, .fp8e4m3⟩
  | .hbm, ⟨6, _⟩ => ⟨S256x52, .f32⟩
  | .local _ .vmem, ⟨0, _⟩ => ⟨S256x6656, .bf16⟩
  | .local _ .vmem, ⟨1, _⟩ => ⟨S6656x512, .fp8e4m3⟩
  | .local _ .vmem, ⟨2, _⟩ => ⟨S6656x512, .fp8e4m3⟩
  | .local _ .vmem, ⟨3, _⟩ => ⟨S256x512, .bf16⟩
  | .local _ .vmem, ⟨4, _⟩ => ⟨S256x512, .bf16⟩
  | .local _ .vmem, ⟨5, _⟩ => ⟨S256x6656, .fp8e4m3⟩
  | .local _ .vmem, ⟨6, _⟩ => ⟨S256x52, .f32⟩
  | .local _ .vmem, ⟨7, _⟩ => ⟨S256x6656, .bf16⟩
  | .local _ .smem, ⟨0, _⟩ => ⟨S52x36, .f32⟩
  | _, _ => ⟨S256x1x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![9], ![false]⟩

def k0_off1 (i : grid0.Coords) (c0_i32_1 : BitVec 32) : Fin 2 → Nat :=
  let c0 : Index := 0#32
  let arg0 : BitVec 32 := BitVec.ofNat 32 (i 0).val
  let c4_i32 : BitVec 32 := 4#32
  let v4 : BitVec 32 := Scalar.muli arg0 c4_i32
  let v5 : BitVec 32 := Scalar.addi v4 c0_i32_1
  let v6 : Index := Scalar.indexCast v5
  ![0, v6.toNat]
def k0_off2 (i : grid0.Coords) (c0_i32_5 : BitVec 32) : Fin 2 → Nat :=
  let c1 : Index := 1#32
  let arg0 : BitVec 32 := BitVec.ofNat 32 (i 0).val
  let c4_i32_4 : BitVec 32 := 4#32
  let v13 : BitVec 32 := Scalar.muli arg0 c4_i32_4
  let v14 : BitVec 32 := Scalar.addi v13 c0_i32_5
  let v15 : Index := Scalar.indexCast v14
  ![1, v15.toNat]
def k0_off3 (i : grid0.Coords) (c0_i32_36 : BitVec 32) : Fin 2 → Nat :=
  let c2 : Index := 2#32
  let arg0 : BitVec 32 := BitVec.ofNat 32 (i 0).val
  let c4_i32_35 : BitVec 32 := 4#32
  let v84 : BitVec 32 := Scalar.muli arg0 c4_i32_35
  let v85 : BitVec 32 := Scalar.addi v84 c0_i32_36
  let v86 : Index := Scalar.indexCast v85
  ![2, v86.toNat]
def k0_off4 (i : grid0.Coords) (c0_i32_40 : BitVec 32) : Fin 2 → Nat :=
  let c3 : Index := 3#32
  let arg0 : BitVec 32 := BitVec.ofNat 32 (i 0).val
  let c4_i32_39 : BitVec 32 := 4#32
  let v93 : BitVec 32 := Scalar.muli arg0 c4_i32_39
  let v94 : BitVec 32 := Scalar.addi v93 c0_i32_40
  let v95 : Index := Scalar.indexCast v94
  ![3, v95.toNat]
def k0_off5 (i : grid0.Coords) (c0_i32_77 : BitVec 32) : Fin 2 → Nat :=
  let c4 : Index := 4#32
  let arg0 : BitVec 32 := BitVec.ofNat 32 (i 0).val
  let c4_i32_76 : BitVec 32 := 4#32
  let v164 : BitVec 32 := Scalar.muli arg0 c4_i32_76
  let v165 : BitVec 32 := Scalar.addi v164 c0_i32_77
  let v166 : Index := Scalar.indexCast v165
  ![4, v166.toNat]
def k0_off6 (i : grid0.Coords) (c0_i32_80 : BitVec 32) : Fin 2 → Nat :=
  let c5 : Index := 5#32
  let arg0 : BitVec 32 := BitVec.ofNat 32 (i 0).val
  let c4_i32_79 : BitVec 32 := 4#32
  let v173 : BitVec 32 := Scalar.muli arg0 c4_i32_79
  let v174 : BitVec 32 := Scalar.addi v173 c0_i32_80
  let v175 : Index := Scalar.indexCast v174
  ![5, v175.toNat]
def k0_off7 (i : grid0.Coords) (c0_i32_116 : BitVec 32) : Fin 2 → Nat :=
  let c6 : Index := 6#32
  let arg0 : BitVec 32 := BitVec.ofNat 32 (i 0).val
  let c4_i32_115 : BitVec 32 := 4#32
  let v244 : BitVec 32 := Scalar.muli arg0 c4_i32_115
  let v245 : BitVec 32 := Scalar.addi v244 c0_i32_116
  let v246 : Index := Scalar.indexCast v245
  ![6, v246.toNat]
def k0_off8 (i : grid0.Coords) (c0_i32_119 : BitVec 32) : Fin 2 → Nat :=
  let c7 : Index := 7#32
  let arg0 : BitVec 32 := BitVec.ofNat 32 (i 0).val
  let c4_i32_118 : BitVec 32 := 4#32
  let v253 : BitVec 32 := Scalar.muli arg0 c4_i32_118
  let v254 : BitVec 32 := Scalar.addi v253 c0_i32_119
  let v255 : Index := Scalar.indexCast v254
  ![7, v255.toNat]
def k0_off9 (i : grid0.Coords) (c0_i32_155 : BitVec 32) : Fin 2 → Nat :=
  let c8 : Index := 8#32
  let arg0 : BitVec 32 := BitVec.ofNat 32 (i 0).val
  let c4_i32_154 : BitVec 32 := 4#32
  let v324 : BitVec 32 := Scalar.muli arg0 c4_i32_154
  let v325 : BitVec 32 := Scalar.addi v324 c0_i32_155
  let v326 : Index := Scalar.indexCast v325
  ![8, v326.toNat]
def k0_off10 (i : grid0.Coords) (c0_i32_158 : BitVec 32) : Fin 2 → Nat :=
  let c9 : Index := 9#32
  let arg0 : BitVec 32 := BitVec.ofNat 32 (i 0).val
  let c4_i32_157 : BitVec 32 := 4#32
  let v333 : BitVec 32 := Scalar.muli arg0 c4_i32_157
  let v334 : BitVec 32 := Scalar.addi v333 c0_i32_158
  let v335 : Index := Scalar.indexCast v334
  ![9, v335.toNat]
def k0_off11 (i : grid0.Coords) (c0_i32_194 : BitVec 32) : Fin 2 → Nat :=
  let c10 : Index := 10#32
  let arg0 : BitVec 32 := BitVec.ofNat 32 (i 0).val
  let c4_i32_193 : BitVec 32 := 4#32
  let v404 : BitVec 32 := Scalar.muli arg0 c4_i32_193
  let v405 : BitVec 32 := Scalar.addi v404 c0_i32_194
  let v406 : Index := Scalar.indexCast v405
  ![10, v406.toNat]
def k0_off12 (i : grid0.Coords) (c0_i32_197 : BitVec 32) : Fin 2 → Nat :=
  let c11 : Index := 11#32
  let arg0 : BitVec 32 := BitVec.ofNat 32 (i 0).val
  let c4_i32_196 : BitVec 32 := 4#32
  let v413 : BitVec 32 := Scalar.muli arg0 c4_i32_196
  let v414 : BitVec 32 := Scalar.addi v413 c0_i32_197
  let v415 : Index := Scalar.indexCast v414
  ![11, v415.toNat]
def k0_off13 (i : grid0.Coords) (c0_i32_233 : BitVec 32) : Fin 2 → Nat :=
  let c12 : Index := 12#32
  let arg0 : BitVec 32 := BitVec.ofNat 32 (i 0).val
  let c4_i32_232 : BitVec 32 := 4#32
  let v484 : BitVec 32 := Scalar.muli arg0 c4_i32_232
  let v485 : BitVec 32 := Scalar.addi v484 c0_i32_233
  let v486 : Index := Scalar.indexCast v485
  ![12, v486.toNat]
def k0_off14 (i : grid0.Coords) (c0_i32_236 : BitVec 32) : Fin 2 → Nat :=
  let c13 : Index := 13#32
  let arg0 : BitVec 32 := BitVec.ofNat 32 (i 0).val
  let c4_i32_235 : BitVec 32 := 4#32
  let v493 : BitVec 32 := Scalar.muli arg0 c4_i32_235
  let v494 : BitVec 32 := Scalar.addi v493 c0_i32_236
  let v495 : Index := Scalar.indexCast v494
  ![13, v495.toNat]
def k0_off15 (i : grid0.Coords) (c0_i32_272 : BitVec 32) : Fin 2 → Nat :=
  let c14 : Index := 14#32
  let arg0 : BitVec 32 := BitVec.ofNat 32 (i 0).val
  let c4_i32_271 : BitVec 32 := 4#32
  let v564 : BitVec 32 := Scalar.muli arg0 c4_i32_271
  let v565 : BitVec 32 := Scalar.addi v564 c0_i32_272
  let v566 : Index := Scalar.indexCast v565
  ![14, v566.toNat]
def k0_off16 (i : grid0.Coords) (c0_i32_275 : BitVec 32) : Fin 2 → Nat :=
  let c15 : Index := 15#32
  let arg0 : BitVec 32 := BitVec.ofNat 32 (i 0).val
  let c4_i32_274 : BitVec 32 := 4#32
  let v573 : BitVec 32 := Scalar.muli arg0 c4_i32_274
  let v574 : BitVec 32 := Scalar.addi v573 c0_i32_275
  let v575 : Index := Scalar.indexCast v574
  ![15, v575.toNat]
def k0_off17 (i : grid0.Coords) (c0_i32_311 : BitVec 32) : Fin 2 → Nat :=
  let c16 : Index := 16#32
  let arg0 : BitVec 32 := BitVec.ofNat 32 (i 0).val
  let c4_i32_310 : BitVec 32 := 4#32
  let v644 : BitVec 32 := Scalar.muli arg0 c4_i32_310
  let v645 : BitVec 32 := Scalar.addi v644 c0_i32_311
  let v646 : Index := Scalar.indexCast v645
  ![16, v646.toNat]
def k0_off18 (i : grid0.Coords) (c0_i32_314 : BitVec 32) : Fin 2 → Nat :=
  let c17 : Index := 17#32
  let arg0 : BitVec 32 := BitVec.ofNat 32 (i 0).val
  let c4_i32_313 : BitVec 32 := 4#32
  let v653 : BitVec 32 := Scalar.muli arg0 c4_i32_313
  let v654 : BitVec 32 := Scalar.addi v653 c0_i32_314
  let v655 : Index := Scalar.indexCast v654
  ![17, v655.toNat]
def k0_off19 (i : grid0.Coords) (c0_i32_350 : BitVec 32) : Fin 2 → Nat :=
  let c18 : Index := 18#32
  let arg0 : BitVec 32 := BitVec.ofNat 32 (i 0).val
  let c4_i32_349 : BitVec 32 := 4#32
  let v724 : BitVec 32 := Scalar.muli arg0 c4_i32_349
  let v725 : BitVec 32 := Scalar.addi v724 c0_i32_350
  let v726 : Index := Scalar.indexCast v725
  ![18, v726.toNat]
def k0_off20 (i : grid0.Coords) (c0_i32_353 : BitVec 32) : Fin 2 → Nat :=
  let c19 : Index := 19#32
  let arg0 : BitVec 32 := BitVec.ofNat 32 (i 0).val
  let c4_i32_352 : BitVec 32 := 4#32
  let v733 : BitVec 32 := Scalar.muli arg0 c4_i32_352
  let v734 : BitVec 32 := Scalar.addi v733 c0_i32_353
  let v735 : Index := Scalar.indexCast v734
  ![19, v735.toNat]
def k0_off21 (i : grid0.Coords) (c0_i32_389 : BitVec 32) : Fin 2 → Nat :=
  let c20 : Index := 20#32
  let arg0 : BitVec 32 := BitVec.ofNat 32 (i 0).val
  let c4_i32_388 : BitVec 32 := 4#32
  let v804 : BitVec 32 := Scalar.muli arg0 c4_i32_388
  let v805 : BitVec 32 := Scalar.addi v804 c0_i32_389
  let v806 : Index := Scalar.indexCast v805
  ![20, v806.toNat]
def k0_off22 (i : grid0.Coords) (c0_i32_392 : BitVec 32) : Fin 2 → Nat :=
  let c21 : Index := 21#32
  let arg0 : BitVec 32 := BitVec.ofNat 32 (i 0).val
  let c4_i32_391 : BitVec 32 := 4#32
  let v813 : BitVec 32 := Scalar.muli arg0 c4_i32_391
  let v814 : BitVec 32 := Scalar.addi v813 c0_i32_392
  let v815 : Index := Scalar.indexCast v814
  ![21, v815.toNat]
def k0_off23 (i : grid0.Coords) (c0_i32_428 : BitVec 32) : Fin 2 → Nat :=
  let c22 : Index := 22#32
  let arg0 : BitVec 32 := BitVec.ofNat 32 (i 0).val
  let c4_i32_427 : BitVec 32 := 4#32
  let v884 : BitVec 32 := Scalar.muli arg0 c4_i32_427
  let v885 : BitVec 32 := Scalar.addi v884 c0_i32_428
  let v886 : Index := Scalar.indexCast v885
  ![22, v886.toNat]
def k0_off24 (i : grid0.Coords) (c0_i32_431 : BitVec 32) : Fin 2 → Nat :=
  let c23 : Index := 23#32
  let arg0 : BitVec 32 := BitVec.ofNat 32 (i 0).val
  let c4_i32_430 : BitVec 32 := 4#32
  let v893 : BitVec 32 := Scalar.muli arg0 c4_i32_430
  let v894 : BitVec 32 := Scalar.addi v893 c0_i32_431
  let v895 : Index := Scalar.indexCast v894
  ![23, v895.toNat]
def k0_off25 (i : grid0.Coords) (c0_i32_467 : BitVec 32) : Fin 2 → Nat :=
  let c24 : Index := 24#32
  let arg0 : BitVec 32 := BitVec.ofNat 32 (i 0).val
  let c4_i32_466 : BitVec 32 := 4#32
  let v964 : BitVec 32 := Scalar.muli arg0 c4_i32_466
  let v965 : BitVec 32 := Scalar.addi v964 c0_i32_467
  let v966 : Index := Scalar.indexCast v965
  ![24, v966.toNat]
def k0_off26 (i : grid0.Coords) (c0_i32_470 : BitVec 32) : Fin 2 → Nat :=
  let c25 : Index := 25#32
  let arg0 : BitVec 32 := BitVec.ofNat 32 (i 0).val
  let c4_i32_469 : BitVec 32 := 4#32
  let v973 : BitVec 32 := Scalar.muli arg0 c4_i32_469
  let v974 : BitVec 32 := Scalar.addi v973 c0_i32_470
  let v975 : Index := Scalar.indexCast v974
  ![25, v975.toNat]
def k0_off27 (i : grid0.Coords) (c0_i32_506 : BitVec 32) : Fin 2 → Nat :=
  let c26 : Index := 26#32
  let arg0 : BitVec 32 := BitVec.ofNat 32 (i 0).val
  let c4_i32_505 : BitVec 32 := 4#32
  let v1044 : BitVec 32 := Scalar.muli arg0 c4_i32_505
  let v1045 : BitVec 32 := Scalar.addi v1044 c0_i32_506
  let v1046 : Index := Scalar.indexCast v1045
  ![26, v1046.toNat]
def k0_off28 (i : grid0.Coords) (c0_i32_509 : BitVec 32) : Fin 2 → Nat :=
  let c27 : Index := 27#32
  let arg0 : BitVec 32 := BitVec.ofNat 32 (i 0).val
  let c4_i32_508 : BitVec 32 := 4#32
  let v1053 : BitVec 32 := Scalar.muli arg0 c4_i32_508
  let v1054 : BitVec 32 := Scalar.addi v1053 c0_i32_509
  let v1055 : Index := Scalar.indexCast v1054
  ![27, v1055.toNat]
def k0_off29 (i : grid0.Coords) (c0_i32_545 : BitVec 32) : Fin 2 → Nat :=
  let c28 : Index := 28#32
  let arg0 : BitVec 32 := BitVec.ofNat 32 (i 0).val
  let c4_i32_544 : BitVec 32 := 4#32
  let v1124 : BitVec 32 := Scalar.muli arg0 c4_i32_544
  let v1125 : BitVec 32 := Scalar.addi v1124 c0_i32_545
  let v1126 : Index := Scalar.indexCast v1125
  ![28, v1126.toNat]
def k0_off30 (i : grid0.Coords) (c0_i32_548 : BitVec 32) : Fin 2 → Nat :=
  let c29 : Index := 29#32
  let arg0 : BitVec 32 := BitVec.ofNat 32 (i 0).val
  let c4_i32_547 : BitVec 32 := 4#32
  let v1133 : BitVec 32 := Scalar.muli arg0 c4_i32_547
  let v1134 : BitVec 32 := Scalar.addi v1133 c0_i32_548
  let v1135 : Index := Scalar.indexCast v1134
  ![29, v1135.toNat]
def k0_off31 (i : grid0.Coords) (c0_i32_584 : BitVec 32) : Fin 2 → Nat :=
  let c30 : Index := 30#32
  let arg0 : BitVec 32 := BitVec.ofNat 32 (i 0).val
  let c4_i32_583 : BitVec 32 := 4#32
  let v1204 : BitVec 32 := Scalar.muli arg0 c4_i32_583
  let v1205 : BitVec 32 := Scalar.addi v1204 c0_i32_584
  let v1206 : Index := Scalar.indexCast v1205
  ![30, v1206.toNat]
def k0_off32 (i : grid0.Coords) (c0_i32_587 : BitVec 32) : Fin 2 → Nat :=
  let c31 : Index := 31#32
  let arg0 : BitVec 32 := BitVec.ofNat 32 (i 0).val
  let c4_i32_586 : BitVec 32 := 4#32
  let v1213 : BitVec 32 := Scalar.muli arg0 c4_i32_586
  let v1214 : BitVec 32 := Scalar.addi v1213 c0_i32_587
  let v1215 : Index := Scalar.indexCast v1214
  ![31, v1215.toNat]
def k0_off33 (i : grid0.Coords) (c0_i32_623 : BitVec 32) : Fin 2 → Nat :=
  let c32 : Index := 32#32
  let arg0 : BitVec 32 := BitVec.ofNat 32 (i 0).val
  let c4_i32_622 : BitVec 32 := 4#32
  let v1284 : BitVec 32 := Scalar.muli arg0 c4_i32_622
  let v1285 : BitVec 32 := Scalar.addi v1284 c0_i32_623
  let v1286 : Index := Scalar.indexCast v1285
  ![32, v1286.toNat]
def k0_off34 (i : grid0.Coords) (c0_i32_626 : BitVec 32) : Fin 2 → Nat :=
  let c33 : Index := 33#32
  let arg0 : BitVec 32 := BitVec.ofNat 32 (i 0).val
  let c4_i32_625 : BitVec 32 := 4#32
  let v1293 : BitVec 32 := Scalar.muli arg0 c4_i32_625
  let v1294 : BitVec 32 := Scalar.addi v1293 c0_i32_626
  let v1295 : Index := Scalar.indexCast v1294
  ![33, v1295.toNat]
def k0_off35 (i : grid0.Coords) (c0_i32_662 : BitVec 32) : Fin 2 → Nat :=
  let c34 : Index := 34#32
  let arg0 : BitVec 32 := BitVec.ofNat 32 (i 0).val
  let c4_i32_661 : BitVec 32 := 4#32
  let v1364 : BitVec 32 := Scalar.muli arg0 c4_i32_661
  let v1365 : BitVec 32 := Scalar.addi v1364 c0_i32_662
  let v1366 : Index := Scalar.indexCast v1365
  ![34, v1366.toNat]
def k0_off36 (i : grid0.Coords) (c0_i32_665 : BitVec 32) : Fin 2 → Nat :=
  let c35 : Index := 35#32
  let arg0 : BitVec 32 := BitVec.ofNat 32 (i 0).val
  let c4_i32_664 : BitVec 32 := 4#32
  let v1373 : BitVec 32 := Scalar.muli arg0 c4_i32_664
  let v1374 : BitVec 32 := Scalar.addi v1373 c0_i32_665
  let v1375 : Index := Scalar.indexCast v1374
  ![35, v1375.toNat]
def k0_off37 (i : grid0.Coords) (c0_i32_701 : BitVec 32) : Fin 2 → Nat :=
  let c36 : Index := 36#32
  let arg0 : BitVec 32 := BitVec.ofNat 32 (i 0).val
  let c4_i32_700 : BitVec 32 := 4#32
  let v1444 : BitVec 32 := Scalar.muli arg0 c4_i32_700
  let v1445 : BitVec 32 := Scalar.addi v1444 c0_i32_701
  let v1446 : Index := Scalar.indexCast v1445
  ![36, v1446.toNat]
def k0_off38 (i : grid0.Coords) (c0_i32_704 : BitVec 32) : Fin 2 → Nat :=
  let c37 : Index := 37#32
  let arg0 : BitVec 32 := BitVec.ofNat 32 (i 0).val
  let c4_i32_703 : BitVec 32 := 4#32
  let v1453 : BitVec 32 := Scalar.muli arg0 c4_i32_703
  let v1454 : BitVec 32 := Scalar.addi v1453 c0_i32_704
  let v1455 : Index := Scalar.indexCast v1454
  ![37, v1455.toNat]
def k0_off39 (i : grid0.Coords) (c0_i32_740 : BitVec 32) : Fin 2 → Nat :=
  let c38 : Index := 38#32
  let arg0 : BitVec 32 := BitVec.ofNat 32 (i 0).val
  let c4_i32_739 : BitVec 32 := 4#32
  let v1524 : BitVec 32 := Scalar.muli arg0 c4_i32_739
  let v1525 : BitVec 32 := Scalar.addi v1524 c0_i32_740
  let v1526 : Index := Scalar.indexCast v1525
  ![38, v1526.toNat]
def k0_off40 (i : grid0.Coords) (c0_i32_743 : BitVec 32) : Fin 2 → Nat :=
  let c39 : Index := 39#32
  let arg0 : BitVec 32 := BitVec.ofNat 32 (i 0).val
  let c4_i32_742 : BitVec 32 := 4#32
  let v1533 : BitVec 32 := Scalar.muli arg0 c4_i32_742
  let v1534 : BitVec 32 := Scalar.addi v1533 c0_i32_743
  let v1535 : Index := Scalar.indexCast v1534
  ![39, v1535.toNat]
def k0_off41 (i : grid0.Coords) (c0_i32_779 : BitVec 32) : Fin 2 → Nat :=
  let c40 : Index := 40#32
  let arg0 : BitVec 32 := BitVec.ofNat 32 (i 0).val
  let c4_i32_778 : BitVec 32 := 4#32
  let v1604 : BitVec 32 := Scalar.muli arg0 c4_i32_778
  let v1605 : BitVec 32 := Scalar.addi v1604 c0_i32_779
  let v1606 : Index := Scalar.indexCast v1605
  ![40, v1606.toNat]
def k0_off42 (i : grid0.Coords) (c0_i32_782 : BitVec 32) : Fin 2 → Nat :=
  let c41 : Index := 41#32
  let arg0 : BitVec 32 := BitVec.ofNat 32 (i 0).val
  let c4_i32_781 : BitVec 32 := 4#32
  let v1613 : BitVec 32 := Scalar.muli arg0 c4_i32_781
  let v1614 : BitVec 32 := Scalar.addi v1613 c0_i32_782
  let v1615 : Index := Scalar.indexCast v1614
  ![41, v1615.toNat]
def k0_off43 (i : grid0.Coords) (c0_i32_818 : BitVec 32) : Fin 2 → Nat :=
  let c42 : Index := 42#32
  let arg0 : BitVec 32 := BitVec.ofNat 32 (i 0).val
  let c4_i32_817 : BitVec 32 := 4#32
  let v1684 : BitVec 32 := Scalar.muli arg0 c4_i32_817
  let v1685 : BitVec 32 := Scalar.addi v1684 c0_i32_818
  let v1686 : Index := Scalar.indexCast v1685
  ![42, v1686.toNat]
def k0_off44 (i : grid0.Coords) (c0_i32_821 : BitVec 32) : Fin 2 → Nat :=
  let c43 : Index := 43#32
  let arg0 : BitVec 32 := BitVec.ofNat 32 (i 0).val
  let c4_i32_820 : BitVec 32 := 4#32
  let v1693 : BitVec 32 := Scalar.muli arg0 c4_i32_820
  let v1694 : BitVec 32 := Scalar.addi v1693 c0_i32_821
  let v1695 : Index := Scalar.indexCast v1694
  ![43, v1695.toNat]
def k0_off45 (i : grid0.Coords) (c0_i32_857 : BitVec 32) : Fin 2 → Nat :=
  let c44 : Index := 44#32
  let arg0 : BitVec 32 := BitVec.ofNat 32 (i 0).val
  let c4_i32_856 : BitVec 32 := 4#32
  let v1764 : BitVec 32 := Scalar.muli arg0 c4_i32_856
  let v1765 : BitVec 32 := Scalar.addi v1764 c0_i32_857
  let v1766 : Index := Scalar.indexCast v1765
  ![44, v1766.toNat]
def k0_off46 (i : grid0.Coords) (c0_i32_860 : BitVec 32) : Fin 2 → Nat :=
  let c45 : Index := 45#32
  let arg0 : BitVec 32 := BitVec.ofNat 32 (i 0).val
  let c4_i32_859 : BitVec 32 := 4#32
  let v1773 : BitVec 32 := Scalar.muli arg0 c4_i32_859
  let v1774 : BitVec 32 := Scalar.addi v1773 c0_i32_860
  let v1775 : Index := Scalar.indexCast v1774
  ![45, v1775.toNat]
def k0_off47 (i : grid0.Coords) (c0_i32_896 : BitVec 32) : Fin 2 → Nat :=
  let c46 : Index := 46#32
  let arg0 : BitVec 32 := BitVec.ofNat 32 (i 0).val
  let c4_i32_895 : BitVec 32 := 4#32
  let v1844 : BitVec 32 := Scalar.muli arg0 c4_i32_895
  let v1845 : BitVec 32 := Scalar.addi v1844 c0_i32_896
  let v1846 : Index := Scalar.indexCast v1845
  ![46, v1846.toNat]
def k0_off48 (i : grid0.Coords) (c0_i32_899 : BitVec 32) : Fin 2 → Nat :=
  let c47 : Index := 47#32
  let arg0 : BitVec 32 := BitVec.ofNat 32 (i 0).val
  let c4_i32_898 : BitVec 32 := 4#32
  let v1853 : BitVec 32 := Scalar.muli arg0 c4_i32_898
  let v1854 : BitVec 32 := Scalar.addi v1853 c0_i32_899
  let v1855 : Index := Scalar.indexCast v1854
  ![47, v1855.toNat]
def k0_off49 (i : grid0.Coords) (c0_i32_935 : BitVec 32) : Fin 2 → Nat :=
  let c48 : Index := 48#32
  let arg0 : BitVec 32 := BitVec.ofNat 32 (i 0).val
  let c4_i32_934 : BitVec 32 := 4#32
  let v1924 : BitVec 32 := Scalar.muli arg0 c4_i32_934
  let v1925 : BitVec 32 := Scalar.addi v1924 c0_i32_935
  let v1926 : Index := Scalar.indexCast v1925
  ![48, v1926.toNat]
def k0_off50 (i : grid0.Coords) (c0_i32_938 : BitVec 32) : Fin 2 → Nat :=
  let c49 : Index := 49#32
  let arg0 : BitVec 32 := BitVec.ofNat 32 (i 0).val
  let c4_i32_937 : BitVec 32 := 4#32
  let v1933 : BitVec 32 := Scalar.muli arg0 c4_i32_937
  let v1934 : BitVec 32 := Scalar.addi v1933 c0_i32_938
  let v1935 : Index := Scalar.indexCast v1934
  ![49, v1935.toNat]
def k0_off51 (i : grid0.Coords) (c0_i32_974 : BitVec 32) : Fin 2 → Nat :=
  let c50 : Index := 50#32
  let arg0 : BitVec 32 := BitVec.ofNat 32 (i 0).val
  let c4_i32_973 : BitVec 32 := 4#32
  let v2004 : BitVec 32 := Scalar.muli arg0 c4_i32_973
  let v2005 : BitVec 32 := Scalar.addi v2004 c0_i32_974
  let v2006 : Index := Scalar.indexCast v2005
  ![50, v2006.toNat]
def k0_off52 (i : grid0.Coords) (c0_i32_977 : BitVec 32) : Fin 2 → Nat :=
  let c51 : Index := 51#32
  let arg0 : BitVec 32 := BitVec.ofNat 32 (i 0).val
  let c4_i32_976 : BitVec 32 := 4#32
  let v2013 : BitVec 32 := Scalar.muli arg0 c4_i32_976
  let v2014 : BitVec 32 := Scalar.addi v2013 c0_i32_977
  let v2015 : Index := Scalar.indexCast v2014
  ![51, v2015.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6656x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S52x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x52 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x1x6656 : Shape := ⟨3, ![256, 1, 6656]⟩
abbrev S6656x4608 : Shape := ⟨2, ![6656, 4608]⟩
abbrev S52x36 : Shape := ⟨2, ![52, 36]⟩
abbrev S256x6656 : Shape := ⟨2, ![256, 6656]⟩
abbrev S256x52x128 : Shape := ⟨3, ![256, 52, 128]⟩
abbrev S_ : Shape := ⟨0, ![]⟩
abbrev S256x52 : Shape := ⟨2, ![256, 52]⟩
abbrev S256x52x1 : Shape := ⟨3, ![256, 52, 1]⟩
abbrev S256x4608 : Shape := ⟨2, ![256, 4608]⟩
abbrev S52x128x4608 : Shape := ⟨3, ![52, 128, 4608]⟩
abbrev S52x256x4608 : Shape := ⟨3, ![52, 256, 4608]⟩
abbrev S52x256x36x128 : Shape := ⟨4, ![52, 256, 36, 128]⟩
abbrev S52x256 : Shape := ⟨2, ![52, 256]⟩
abbrev S52x256x1x1 : Shape := ⟨4, ![52, 256, 1, 1]⟩
abbrev S52x1x36x1 : Shape := ⟨4, ![52, 1, 36, 1]⟩
abbrev S256x36x128 : Shape := ⟨3, ![256, 36, 128]⟩

abbrev nBuf : Space → Nat
  | .hbm => 49
  | .vmem => 5
  | .smem => 0
  | _ => 0

abbrev bufTy : (tb : Table) → Fin (tcTables nBuf tb) → BufTy
  | .hbm, ⟨0, _⟩ => ⟨S256x1x6656, .bf16⟩
  | .hbm, ⟨1, _⟩ => ⟨S6656x4608, .fp8e4m3⟩
  | .hbm, ⟨2, _⟩ => ⟨S52x36, .f32⟩
  | .hbm, ⟨3, _⟩ => ⟨S256x6656, .bf16⟩
  | .hbm, ⟨4, _⟩ => ⟨S256x6656, .f32⟩
  | .hbm, ⟨5, _⟩ => ⟨S256x52x128, .f32⟩
  | .hbm, ⟨6, _⟩ => ⟨S256x52x128, .f32⟩
  | .hbm, ⟨7, _⟩ => ⟨S_, .f32⟩
  | .hbm, ⟨8, _⟩ => ⟨S256x52, .f32⟩
  | .hbm, ⟨9, _⟩ => ⟨S_, .f32⟩
  | .hbm, ⟨10, _⟩ => ⟨S256x52, .f32⟩
  | .hbm, ⟨11, _⟩ => ⟨S256x52, .f32⟩
  | .hbm, ⟨12, _⟩ => ⟨S256x52, .f32⟩
  | .hbm, ⟨13, _⟩ => ⟨S_, .f32⟩
  | .hbm, ⟨14, _⟩ => ⟨S_, .f32⟩
  | .hbm, ⟨15, _⟩ => ⟨S256x52, .f32⟩
  | .hbm, ⟨16, _⟩ => ⟨S256x52, .f32⟩
  | .hbm, ⟨17, _⟩ => ⟨S256x52, .f32⟩
  | .hbm, ⟨18, _⟩ => ⟨S_, .f32⟩
  | .hbm, ⟨19, _⟩ => ⟨S256x52, .f32⟩
  | .hbm, ⟨20, _⟩ => ⟨S256x52, .f32⟩
  | .hbm, ⟨21, _⟩ => ⟨S_, .f32⟩
  | .hbm, ⟨22, _⟩ => ⟨S256x52, .f32⟩
  | .hbm, ⟨23, _⟩ => ⟨S256x52, .i1⟩
  | .hbm, ⟨24, _⟩ => ⟨S_, .f32⟩
  | .hbm, ⟨25, _⟩ => ⟨S_, .f32⟩
  | .hbm, ⟨26, _⟩ => ⟨S256x52, .f32⟩
  | .hbm, ⟨27, _⟩ => ⟨S256x52, .f32⟩
  | .hbm, ⟨28, _⟩ => ⟨S_, .f32⟩
  | .hbm, ⟨29, _⟩ => ⟨S256x52, .f32⟩
  | .hbm, ⟨30, _⟩ => ⟨S256x52, .f32⟩
  | .hbm, ⟨31, _⟩ => ⟨S256x52, .f32⟩
  | .hbm, ⟨32, _⟩ => ⟨S_, .f32⟩
  | .hbm, ⟨33, _⟩ => ⟨S256x52, .f32⟩
  | .hbm, ⟨34, _⟩ => ⟨S256x52, .f32⟩
  | .hbm, ⟨35, _⟩ => ⟨S256x52x1, .f32⟩
  | .hbm, ⟨36, _⟩ => ⟨S256x52x128, .f32⟩
  | .hbm, ⟨37, _⟩ => ⟨S256x52x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256x52x128, .f32⟩
  | .hbm, ⟨42, _⟩ => ⟨S256x52x128, .f32⟩
  | .hbm, ⟨43, _⟩ => ⟨S_, .f32⟩
  | .hbm, ⟨44, _⟩ => ⟨S256x52x128, .f32⟩
  | .hbm, ⟨45, _⟩ => ⟨S256x52x128, .f32⟩
  | .hbm, ⟨46, _⟩ => ⟨S256x52x128, .fp8e4m3⟩
  | .hbm, ⟨47, _⟩ => ⟨S256x6656, .fp8e4m3⟩
  | .hbm, ⟨48, _⟩ => ⟨S256x4608, .bf16⟩
  | .local _ .vmem, ⟨0, _⟩ => ⟨S256x6656, .fp8e4m3⟩
  | .local _ .vmem, ⟨1, _⟩ => ⟨S6656x4608, .fp8e4m3⟩
  | .local _ .vmem, ⟨2, _⟩ => ⟨S256x52, .f32⟩
  | .local _ .vmem, ⟨3, _⟩ => ⟨S52x36, .f32⟩
  | .local _ .vmem, ⟨4, _⟩ => ⟨S256x4608, .bf16⟩
  | _, _ => ⟨S256x1x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x6656 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6656x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x52 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S52x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Quant.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Tactic.Stretches
public import Idealize.ShloMosaic.Lib.ValueIdxCore
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## What the quantisation stores, as functions of the x block -/

/-- Column group g of the x block. -/
def xgrp (x0 : Vec F S256x6656 .bf16) (g : Fin 52) : Vec F S256x128 .bf16 :=
  fun x => x0 (ix2 (x 0) ⟨128 * g.val + (x 1).val, by have := idx2_lt1 x; omega⟩)

/-- The scale of every row and group. -/
def SCALE (x0 : Vec F S256x6656 .bf16) : Vec F S256x52 .f32 :=
  fun y => k0_pay4 (xgrp x0 (y 1)) (ix2 (y 0) 0)

/-- The fp8 code of every entry. -/
def CODES (x0 : Vec F S256x6656 .bf16) : Vec F S256x6656 .fp8e4m3 :=
  fun y => k0_pay5 (xgrp x0 ⟨(y 1).val / 128, by have := idx2_lt1 y; omega⟩)
    (ix2 (y 0) ⟨(y 1).val % 128, Nat.mod_lt _ (by omega)⟩)

/-- The quantised value of every entry: its code times its group's scale. -/
def XD (x0 : Vec F S256x6656 .bf16) : Vec F S256x6656 .bf16 :=
  fun y => k0_pay8 (k0_pay6 (xgrp x0 ⟨(y 1).val / 128, by have := idx2_lt1 y; omega⟩))
    (k0_pay7 (xgrp x0 ⟨(y 1).val / 128, by have := idx2_lt1 y; omega⟩))
    (ix2 (y 0) ⟨(y 1).val % 128, Nat.mod_lt _ (by omega)⟩)

/-- A load of 128 columns from a multiple of 128 on reads that group. -/
theorem load_grp (arg1 : Memref sig .tc .vmem S256x6656 .bf16) (harg1 : arg1.IsWhole) (x0 : Vec F S256x6656 .bf16)
    (o : ℕ) (inb) (g : Fin 52) (ho : o = 128 * g.val) :
    View.readAt (Elt F) arg1.view (Rect.unit (s := S256x6656) ![0, o] S256x128.size inb).toLoadRect (harg1.unread x0)
      = xgrp x0 g := by
  subst ho
  funext x
  rw [Memref.IsWhole.readAt_unread]
  unfold xgrp
  congr 1
  funext a
  match a with
  | ⟨0, _⟩ => exact Fin.ext (show 0 + 1 * (x 0).val = (x 0).val by omega)
  | ⟨1, _⟩ => exact Fin.ext (show 128 * g.val + 1 * (x 1).val = 128 * g.val + (x 1).val by omega)

theorem grp_lt (o : ℕ) (inb : ∀ a : Fin 2, (![0, o] : Fin 2 → ℕ) a + S256x128.size a ≤ S256x6656.size a) : o / 128 < 52 := by
  have h := inb 1
  have h : o + 128 ≤ 6656 := h
  omega

section
variable (arg1 : Memref sig .tc .vmem S256x6656 .bf16) (harg1 : arg1.IsWhole) (x0 : Vec F S256x6656 .bf16)

/-- Under the piece at columns o the quantised array is the quantisation of the group loaded there; -/
theorem XD_emb (o : ℕ) (ho : o % 128 = 0) (inb : ∀ a, (![0, o] : Fin 2 → ℕ) a + S256x128.size a ≤ S256x6656.size a) (x : S256x128.Idx) :
    XD x0 ((Rect.unit (s := S256x6656) ![0, o] S256x128.size inb).emb x)
      = k0_pay8
          (k0_pay6 (View.readAt (Elt F) arg1.view (Rect.unit (s := S256x6656) ![0, o] S256x128.size inb).toLoadRect (harg1.unread x0)))
          (k0_pay7 (View.readAt (Elt F) arg1.view (Rect.unit (s := S256x6656) ![0, o] S256x128.size inb).toLoadRect (harg1.unread x0))) x := by
  rw [load_grp arg1 harg1 x0 o inb ⟨o / 128, grp_lt o inb⟩ (by show o = 128 * (o / 128); omega)]
  have hx := idx2_lt1 x
  have e1 : (((Rect.unit (s := S256x6656) ![0, o] S256x128.size inb).emb x) 1).val = o + (x 1).val := by
    show o + 1 * (x 1).val = _; omega
  have e0 : ((Rect.unit (s := S256x6656) ![0, o] S256x128.size inb).emb x) 0 = x 0 :=
    Fin.ext (show 0 + 1 * (x 0).val = (x 0).val by omega)
  unfold XD
  simp only [e1, e0, show (o + (x 1).val) / 128 = o / 128 by omega, show (o + (x 1).val) % 128 = (x 1).val by omega]
  exact congrArg _ (eq_ix2 x).symm

/-- the codes are its codes; -/
theorem CODES_emb (o : ℕ) (ho : o % 128 = 0) (inb : ∀ a, (![0, o] : Fin 2 → ℕ) a + S256x128.size a ≤ S256x6656.size a) (x : S256x128.Idx) :
    CODES x0 ((Rect.unit (s := S256x6656) ![0, o] S256x128.size inb).emb x)
      = k0_pay5 (View.readAt (Elt F) arg1.view (Rect.unit (s := S256x6656) ![0, o] S256x128.size inb).toLoadRect (harg1.unread x0)) x := by
  rw [load_grp arg1 harg1 x0 o inb ⟨o / 128, grp_lt o inb⟩ (by show o = 128 * (o / 128); omega)]
  have hx := idx2_lt1 x
  have e1 : (((Rect.unit (s := S256x6656) ![0, o] S256x128.size inb).emb x) 1).val = o + (x 1).val := by
    show o + 1 * (x 1).val = _; omega
  have e0 : ((Rect.unit (s := S256x6656) ![0, o] S256x128.size inb).emb x) 0 = x 0 :=
    Fin.ext (show 0 + 1 * (x 0).val = (x 0).val by omega)
  unfold CODES
  simp only [e1, e0, show (o + (x 1).val) / 128 = o / 128 by omega, show (o + (x 1).val) % 128 = (x 1).val by omega]
  exact congrArg _ (eq_ix2 x).symm

end

theorem grp_inb (k : ℕ) (inb' : ∀ a, (![0, k] : Fin 2 → ℕ) a + S256x1.size a ≤ S256x52.size a) :
    ∀ a, (![0, 128 * k] : Fin 2 → ℕ) a + S256x128.size a ≤ S256x6656.size a := by
  have hk : k + 1 ≤ 52 := inb' 1
  intro a
  match a with
  | ⟨0, _⟩ => show 0 + 256 ≤ 256; omega
  | ⟨1, _⟩ => show 128 * k + 128 ≤ 6656; omega

/-- and the scale column at k is its scale. -/
theorem SCALE_emb (arg1 : Memref sig .tc .vmem S256x6656 .bf16) (harg1 : arg1.IsWhole) (x0 : Vec F S256x6656 .bf16)
    (k : ℕ) (inb' : ∀ a, (![0, k] : Fin 2 → ℕ) a + S256x1.size a ≤ S256x52.size a) (x : S256x1.Idx) :
    SCALE x0 ((Rect.unit (s := S256x52) ![0, k] S256x1.size inb').emb x)
      = k0_pay4 (View.readAt (Elt F) arg1.view (Rect.unit (s := S256x6656) ![0, 128 * k] S256x128.size (grp_inb k inb')).toLoadRect (harg1.unread x0)) x := by
  have hk : k < 52 := by have h : k + 1 ≤ 52 := inb' 1; omega
  rw [load_grp arg1 harg1 x0 (128 * k) (grp_inb k inb') ⟨k, hk⟩ rfl]
  have hx := idx2_lt1 x
  have e1 : ((Rect.unit (s := S256x52) ![0, k] S256x1.size inb').emb x) 1 = (⟨k, hk⟩ : Fin 52) :=
    Fin.ext (show k + 1 * (x 1).val = k by omega)
  have e0 : ((Rect.unit (s := S256x52) ![0, k] S256x1.size inb').emb x) 0 = x 0 :=
    Fin.ext (show 0 + 1 * (x 0).val = (x 0).val by omega)
  unfold SCALE
  rw [e1, e0]
  refine congrArg _ ?_
  conv_rhs => rw [eq_ix2 x]
  congr 1
  exact Fin.ext (by show 0 = (x 1).val; omega)

/-! ## The values the first part of the product hands on -/

section
variable (i : grid0.Coords) (arg2 : Memref sig .tc .vmem S6656x512 .fp8e4m3) (harg2 : arg2.IsWhole)
  (arg3 : Memref sig .tc .smem S52x36 .f32) (harg3 : arg3.IsWhole) (x1 : Vec F S6656x512 .fp8e4m3) (x2 : Vec F S52x36 .f32)

theorem numel_first (off : Fin 2 → ℕ) (inb) : 0 < (Rect.unit (s := S52x36) off S1x1.size inb).shape.numel := by
  show 0 < S1x1.numel
  decide

/-- What the part returns. -/
abbrev Ret67 (F : FTy → Type) : Type :=
  (_ : BitVec 32) ×' (_ : FVec F S256x512 .f32) ×' (_ : FVec F S256x128 .bf16) ×' (_ : FVec F S128x128 .bf16) ×' F .bf16

def ret67_2 : FVec F S256x128 .bf16 :=
  k0_pay367
    (View.readAt (Elt F) arg3.view (Rect.unit (s := S52x36) (k0_off1 i 0#32) S1x1.size (k0_off1_inb i 0)).toLoadRect (harg3.unread x2) (Shape.Idx.first (numel_first _ _)))
    (View.readAt (Elt F) arg2.view (Rect.unit (s := S6656x512) ![0, 0] S128x128.size inb_S6656x512_S128x128_0_0).toLoadRect (harg2.unread x1))
    (View.readAt (Elt F) arg3.view (Rect.unit (s := S52x36) (k0_off2 i 0#32) S1x1.size (k0_off2_inb i 0)).toLoadRect (harg3.unread x2) (Shape.Idx.first (numel_first _ _)))
    (View.readAt (Elt F) arg2.view (Rect.unit (s := S6656x512) ![128, 0] S128x128.size inb_S6656x512_S128x128_128_0).toLoadRect (harg2.unread x1))

def ret67_3 : FVec F S128x128 .bf16 :=
  k0_pay368
    (View.readAt (Elt F) arg3.view (Rect.unit (s := S52x36) (k0_off1 i 1#32) S1x1.size (k0_off1_inb i 1)).toLoadRect (harg3.unread x2) (Shape.Idx.first (numel_first _ _)))
    (View.readAt (Elt F) arg2.view (Rect.unit (s := S6656x512) ![0, 128] S128x128.size inb_S6656x512_S128x128_0_128).toLoadRect (harg2.unread x1))

def ret67_4 : F .bf16 :=
  k0_pay369
    (View.readAt (Elt F) arg3.view (Rect.unit (s := S52x36) (k0_off2 i 1#32) S1x1.size (k0_off2_inb i 1)).toLoadRect (harg3.unread x2) (Shape.Idx.first (numel_first _ _)))

end

/-- Contents that read X are the contents named by X. -/
theorem pts_unread {sp : Space} {s : Shape} {e : EltTy} (c : Dev nD) (a : Memref sig .tc sp s e) (h : a.IsWhole) (X : s.Idx → Elt F e)
    (f : a.view.ty.Contents (Elt F)) (hf : a.view.read (Elt F) f = X) :
    (a.view.loc c ↦{fullShare} f : sProp 𝕄) ⊢ (a.view.loc c ↦{fullShare} h.unread X) := by
  rw [h.eq_unread hf]

set_option maxHeartbeats 7392000 in
set_option pp.maxSteps 200 in
/-- The first point: the part quantises the x block into the codes, the scales and the scratch. -/
theorem part67_A (c : Dev nD) (i : grid0.Coords) (arg1 : Memref sig .tc .vmem S256x6656 .bf16) (harg1 : arg1.IsWhole) (arg2 : Memref sig .tc .vmem S6656x512 .fp8e4m3) (harg2 : arg2.IsWhole) (arg3 : Memref sig .tc .smem S52x36 .f32) (harg3 : arg3.IsWhole) (arg4 : Memref sig .tc .vmem S256x512 .bf16) (harg4 : arg4.IsWhole) (arg5 : Memref sig .tc .vmem S256x6656 .fp8e4m3) (harg5 : arg5.IsWhole) (arg6 : Memref sig .tc .vmem S256x52 .f32) (harg6 : arg6.IsWhole) (arg7 : Memref sig .tc .vmem S256x6656 .bf16) (harg7 : arg7.IsWhole) (hc0 : k0_cond1 i = 1#1)
    (x0 : Vec F S256x6656 .bf16) (x1 : Vec F S6656x512 .fp8e4m3) (x2 : Vec F S52x36 .f32) (f5 f6 f7) (E : Set ℕ) :
    iprop((arg1.view.loc c ↦{fullShare} harg1.unread x0) ∗ (arg2.view.loc c ↦{fullShare} harg2.unread x1) ∗ (arg3.view.loc c ↦{fullShare} harg3.unread x2)
      ∗ (arg5.view.loc c ↦{fullShare} f5) ∗ (arg6.view.loc c ↦{fullShare} f6) ∗ (arg7.view.loc c ↦{fullShare} f7))
      ⊢ wp frame (wpE (defs₀ (F := F)) Variants.none c none) E (k0_part67 i arg1 harg1 arg2 harg2 arg3 harg3 arg4 harg4 arg5 harg5 arg6 harg6 arg7 harg7)
        (fun (r : Ret67 F) => (iprop(⌜r.1 = BitVec.ofNat 32 (i 0)⌝ ∗ ⌜r.2.1 = k0_pay366⌝ ∗ ⌜r.2.2.1 = ret67_2 i arg2 harg2 arg3 harg3 x1 x2⌝
        ∗ ⌜r.2.2.2.1 = ret67_3 i arg2 harg2 arg3 harg3 x1 x2⌝ ∗ ⌜r.2.2.2.2 = ret67_4 i arg3 harg3 x2⌝
        ∗ (arg1.view.loc c ↦{fullShare} harg1.unread x0) ∗ (arg2.view.loc c ↦{fullShare} harg2.unread x1) ∗ (arg3.view.loc c ↦{fullShare} harg3.unread x2)
        ∗ (arg5.view.loc c ↦{fullShare} harg5.unread (CODES x0)) ∗ (arg6.view.loc c ↦{fullShare} harg6.unread (SCALE x0)) ∗ (arg7.view.loc c ↦{fullShare} harg7.unread (XD x0))) : sProp 𝕄)) := by
    simp only [k0_part67_eq_skeleton, k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    iintro ⟨H0, H1, H2, H4, H5, HS0⟩
    sl_exec (disch := first | sl_exact hc0)
    sl_step
    isplitr [H0 H1 H2 H4 H5 HS0]; · ipureintro; rfl
    isplitr [H0 H1 H2 H4 H5 HS0]; · ipureintro; rfl
    isplitr [H0 H1 H2 H4 H5 HS0]; · ipureintro; sl_open_run; rfl
    isplitr [H0 H1 H2 H4 H5 HS0]; · ipureintro; sl_open_run; rfl
    isplitr [H0 H1 H2 H4 H5 HS0]; · ipureintro; sl_open_run; rfl
    isplitl [H0]; · iexact H0
    isplitl [H1]; · iexact H1
    isplitl [H2]; · iexact H2
    isplitl [H4]
    · iapply (pts_unread c arg5 harg5 (CODES x0) _ ?_); rotate_left; · iexact H4
      refine funext fun y => View.read_writes_apply_of_pieces arg5.view f5 (CODES x0) _ ?_ y ?_
      rotate_left; · exact View.cover_of_tiled (s := S256x6656) _ S256x128.size (by rfl) y
      repeat
        refine List.forall_mem_cons.mpr ⟨fun x => ?_, ?_⟩
        · refine Eq.trans ?_ (CODES_emb arg1 harg1 x0 _ ?_ ?_ x).symm; rotate_left; · rfl
          · decide
          sl_open_run
          rfl
      exact fun p hp => absurd hp List.not_mem_nil
    isplitl [H5]
    · iapply (pts_unread c arg6 harg6 (SCALE x0) _ ?_); rotate_left; · iexact H5
      refine funext fun y => View.read_writes_apply_of_pieces arg6.view f6 (SCALE x0) _ ?_ y ?_
      rotate_left; · exact View.cover_of_tiled (s := S256x52) _ S256x1.size (by rfl) y
      repeat
        refine List.forall_mem_cons.mpr ⟨fun x => ?_, ?_⟩
        · refine Eq.trans ?_ (SCALE_emb arg1 harg1 x0 _ ?_ x).symm; rotate_left; · decide
          sl_open_run
          rfl
      exact fun p hp => absurd hp List.not_mem_nil
    · iapply (pts_unread c arg7 harg7 (XD x0) _ ?_); rotate_left; · iexact HS0
      refine funext fun y => View.read_writes_apply_of_pieces arg7.view f7 (XD x0) _ ?_ y ?_
      rotate_left; · exact View.cover_of_tiled (s := S256x6656) _ S256x128.size (by rfl) y
      repeat
        refine List.forall_mem_cons.mpr ⟨fun x => ?_, ?_⟩
        · refine Eq.trans ?_ (XD_emb arg1 harg1 x0 _ ?_ ?_ x).symm; rotate_left; · rfl
          · decide
          sl_open_run
          rfl
      exact fun p hp => absurd hp List.not_mem_nil

set_option maxHeartbeats 7392000 in
set_option pp.maxSteps 200 in
/-- Every later point: the part leaves all buffers as they are. -/
theorem part67_B (c : Dev nD) (i : grid0.Coords) (arg1 : Memref sig .tc .vmem S256x6656 .bf16) (harg1 : arg1.IsWhole) (arg2 : Memref sig .tc .vmem S6656x512 .fp8e4m3) (harg2 : arg2.IsWhole) (arg3 : Memref sig .tc .smem S52x36 .f32) (harg3 : arg3.IsWhole) (arg4 : Memref sig .tc .vmem S256x512 .bf16) (harg4 : arg4.IsWhole) (arg5 : Memref sig .tc .vmem S256x6656 .fp8e4m3) (harg5 : arg5.IsWhole) (arg6 : Memref sig .tc .vmem S256x52 .f32) (harg6 : arg6.IsWhole) (arg7 : Memref sig .tc .vmem S256x6656 .bf16) (harg7 : arg7.IsWhole) (hc0 : ¬ k0_cond1 i = 1#1)
    (x0 : Vec F S256x6656 .bf16) (x1 : Vec F S6656x512 .fp8e4m3) (x2 : Vec F S52x36 .f32) (f5 f6 f7) (E : Set ℕ) :
    iprop((arg1.view.loc c ↦{fullShare} harg1.unread x0) ∗ (arg2.view.loc c ↦{fullShare} harg2.unread x1) ∗ (arg3.view.loc c ↦{fullShare} harg3.unread x2)
      ∗ (arg5.view.loc c ↦{fullShare} f5) ∗ (arg6.view.loc c ↦{fullShare} f6) ∗ (arg7.view.loc c ↦{fullShare} f7))
      ⊢ wp frame (wpE (defs₀ (F := F)) Variants.none c none) E (k0_part67 i arg1 harg1 arg2 harg2 arg3 harg3 arg4 harg4 arg5 harg5 arg6 harg6 arg7 harg7)
        (fun (r : Ret67 F) => (iprop(⌜r.1 = BitVec.ofNat 32 (i 0)⌝ ∗ ⌜r.2.1 = k0_pay366⌝ ∗ ⌜r.2.2.1 = ret67_2 i arg2 harg2 arg3 harg3 x1 x2⌝
        ∗ ⌜r.2.2.2.1 = ret67_3 i arg2 harg2 arg3 harg3 x1 x2⌝ ∗ ⌜r.2.2.2.2 = ret67_4 i arg3 harg3 x2⌝
        ∗ (arg1.view.loc c ↦{fullShare} harg1.unread x0) ∗ (arg2.view.loc c ↦{fullShare} harg2.unread x1) ∗ (arg3.view.loc c ↦{fullShare} harg3.unread x2)
        ∗ (arg5.view.loc c ↦{fullShare} f5) ∗ (arg6.view.loc c ↦{fullShare} f6) ∗ (arg7.view.loc c ↦{fullShare} f7)) : sProp 𝕄)) := by
    simp only [k0_part67_eq_skeleton]
    iintro ⟨H0, H1, H2, H4, H5, HS0⟩
    sl_exec (disch := first | sl_exact hc0)
    sl_step
    isplitr [H0 H1 H2 H4 H5 HS0]; · ipureintro; rfl
    isplitr [H0 H1 H2 H4 H5 HS0]; · ipureintro; rfl
    isplitr [H0 H1 H2 H4 H5 HS0]; · ipureintro; sl_open_run; rfl
    isplitr [H0 H1 H2 H4 H5 HS0]; · ipureintro; sl_open_run; rfl
    isplitr [H0 H1 H2 H4 H5 HS0]; · ipureintro; sl_open_run; rfl
    isplitl [H0]; · iexact H0
    isplitl [H1]; · iexact H1
    isplitl [H2]; · iexact H2
    isplitl [H4]; · iexact H4
    isplitl [H5]; · iexact H5
    iexact HS0

end Cert.KernelIdeal.Gen

end
-- ==== Proof.Acc.lean ====
module

public import proofs.«01_k».proof.Proof.Gen.KernelIdeal.Frame
public import proofs.«01_k».proof.Proof.Gen.KernelIdeal.Skeleton
public import proofs.«01_k».proof.Proof.Quant
public import Idealize.ShloMosaic.Lib.Pipeline.FrameBody
public import Idealize.ShloMosaic.Lib.Ring
public import Idealize.ShloMosaic.Lib.Tactic
public import Idealize.ShloMosaic.Lib.WordCmp
public import Idealize.ShloMosaic.Lib.Tactic.Stretches
public import Idealize.ShloMosaic.Lib.ValueIdxCore
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## The product, one step per pair of groups

The accumulator after the pairs of groups below k, from the scratch xd, the weight block x1 and the weight scales x2.
`accL…` are the accumulators as the body loads their operands, `accY` the same with the operands read off the arrays. -/

/-- A block of weights times its scale. -/
def wblk (s : Elt F .f32) (w : Vec F S128x128 .fp8e4m3) : FVec F S128x128 .bf16 :=
  mulf (extf .bf16 w bitsLt_fp8e4m3_bf16) (broadcast S128x128 (Scalar.truncf .bf16 bitsLt_bf16_f32 s))

/-- Two blocks, one above the other. -/
def wcol (s : Elt F .f32) (w : Vec F S128x128 .fp8e4m3) (s' : Elt F .f32) (w' : Vec F S128x128 .fp8e4m3) : FVec F S256x128 .bf16 :=
  concatenate S256x128 0 [⟨S128x128, wblk s w⟩, ⟨S128x128, wblk s' w'⟩] concatenates_S128x128_S128x128_S256x128_d0

/-- One step: the accumulator plus the product of 256 columns of xd with the 256 rows of dequantised weights. -/
def stepY (acc : FVec F S256x512 .f32) (s00 : Elt F .f32) (w00 : Vec F S128x128 .fp8e4m3) (s10 : Elt F .f32) (w10 : Vec F S128x128 .fp8e4m3)
    (s01 : Elt F .f32) (w01 : Vec F S128x128 .fp8e4m3) (s11 : Elt F .f32) (w11 : Vec F S128x128 .fp8e4m3)
    (s02 : Elt F .f32) (w02 : Vec F S128x128 .fp8e4m3) (s12 : Elt F .f32) (w12 : Vec F S128x128 .fp8e4m3)
    (s03 : Elt F .f32) (w03 : Vec F S128x128 .fp8e4m3) (s13 : Elt F .f32) (w13 : Vec F S128x128 .fp8e4m3)
    (xk : Vec F S256x256 .bf16) : FVec F S256x512 .f32 :=
  addf acc (matmul dot_S256x256_S256x512_S256x512_1_0_0_1_n_n none xk
    (concatenate S256x512 1 [⟨S256x128, wcol s00 w00 s10 w10⟩, ⟨S256x128, wcol s01 w01 s11 w11⟩, ⟨S256x128, wcol s02 w02 s12 w12⟩,
      ⟨S256x128, wcol s03 w03 s13 w13⟩] concatenates_S256x128_S256x128_S256x128_S256x128_S256x512_d1)
    (constant S256x512 .f32 0x00000000#32))

/-- The scale of block (g, q). -/
def scY (x2 : Vec F S52x36 .f32) (g : Fin 52) (q : Fin 36) : Elt F .f32 := x2 (ix2 g q)

/-- The 128 by 128 block of weights at row 128 g and column 128 o. -/
def wY (x1 : Vec F S6656x512 .fp8e4m3) (g : Fin 52) (o : Fin 4) : Vec F S128x128 .fp8e4m3 :=
  fun y => x1 (ix2 ⟨128 * g.val + (y 0).val, by have := idx2_lt0 y; omega⟩ ⟨128 * o.val + (y 1).val, by have := idx2_lt1 y; omega⟩)

/-- 256 columns of xd from 256 k on. -/
def xY (xd : Vec F S256x6656 .bf16) (k : Fin 26) : Vec F S256x256 .bf16 :=
  fun y => xd (ix2 (y 0) ⟨256 * k.val + (y 1).val, by have := idx2_lt1 y; omega⟩)

/-- One step at the pair k of groups. -/
def stepAt (xd : Vec F S256x6656 .bf16) (x1 : Vec F S6656x512 .fp8e4m3) (x2 : Vec F S52x36 .f32) (j : Fin 9) (k : Fin 26)
    (acc : FVec F S256x512 .f32) : FVec F S256x512 .f32 :=
  stepY acc
    (scY x2 ⟨2 * k.val, by omega⟩ ⟨4 * j.val, by omega⟩) (wY x1 ⟨2 * k.val, by omega⟩ 0)
    (scY x2 ⟨2 * k.val + 1, by omega⟩ ⟨4 * j.val, by omega⟩) (wY x1 ⟨2 * k.val + 1, by omega⟩ 0)
    (scY x2 ⟨2 * k.val, by omega⟩ ⟨4 * j.val + 1, by omega⟩) (wY x1 ⟨2 * k.val, by omega⟩ 1)
    (scY x2 ⟨2 * k.val + 1, by omega⟩ ⟨4 * j.val + 1, by omega⟩) (wY x1 ⟨2 * k.val + 1, by omega⟩ 1)
    (scY x2 ⟨2 * k.val, by omega⟩ ⟨4 * j.val + 2, by omega⟩) (wY x1 ⟨2 * k.val, by omega⟩ 2)
    (scY x2 ⟨2 * k.val + 1, by omega⟩ ⟨4 * j.val + 2, by omega⟩) (wY x1 ⟨2 * k.val + 1, by omega⟩ 2)
    (scY x2 ⟨2 * k.val, by omega⟩ ⟨4 * j.val + 3, by omega⟩) (wY x1 ⟨2 * k.val, by omega⟩ 3)
    (scY x2 ⟨2 * k.val + 1, by omega⟩ ⟨4 * j.val + 3, by omega⟩) (wY x1 ⟨2 * k.val + 1, by omega⟩ 3)
    (xY xd k)

/-- The accumulator after the first k pairs. -/
def accY (xd : Vec F S256x6656 .bf16) (x1 : Vec F S6656x512 .fp8e4m3) (x2 : Vec F S52x36 .f32) (j : Fin 9) :
    (k : ℕ) → k ≤ 26 → FVec F S256x512 .f32
  | 0, _ => broadcast S256x512 (Scalar.ofBits .f32 0x00000000#32)
  | k + 1, h => stepAt xd x1 x2 j ⟨k, h⟩ (accY xd x1 x2 j k (by omega))

/-- The y block. -/
def Yblk (xd : Vec F S256x6656 .bf16) (x1 : Vec F S6656x512 .fp8e4m3) (x2 : Vec F S52x36 .f32) (j : Fin 9) : Vec F S256x512 .bf16 :=
  truncf .bf16 (accY xd x1 x2 j 26 (le_refl _)) bitsLt_bf16_f32

/-! ### The loads -/

/-- A scale as the body loads it. -/
def lds (a : Memref sig .tc .smem S52x36 .f32) (ha : a.IsWhole) (x2 : Vec F S52x36 .f32) (off : Fin 2 → ℕ)
    (inb : ∀ d, off d + S1x1.size d ≤ S52x36.size d) : Elt F .f32 :=
  View.readAt (Elt F) a.view (Rect.unit (s := S52x36) off S1x1.size inb).toLoadRect (ha.unread x2) (Shape.Idx.first (numel_first _ _))

/-- A weight block as the body loads it. -/
def ldw (a : Memref sig .tc .vmem S6656x512 .fp8e4m3) (ha : a.IsWhole) (x1 : Vec F S6656x512 .fp8e4m3) (r o : ℕ)
    (inb : ∀ d, (![r, o] : Fin 2 → ℕ) d + S128x128.size d ≤ S6656x512.size d) : Vec F S128x128 .fp8e4m3 :=
  View.readAt (Elt F) a.view (Rect.unit (s := S6656x512) ![r, o] S128x128.size inb).toLoadRect (ha.unread x1)

/-- 256 columns of the scratch as the body loads them. -/
def ldx (a : Memref sig .tc .vmem S256x6656 .bf16) (ha : a.IsWhole) (xd : Vec F S256x6656 .bf16) (o : ℕ)
    (inb : ∀ d, (![0, o] : Fin 2 → ℕ) d + S256x256.size d ≤ S256x6656.size d) : Vec F S256x256 .bf16 :=
  View.readAt (Elt F) a.view (Rect.unit (s := S256x6656) ![0, o] S256x256.size inb).toLoadRect (ha.unread xd)

theorem lds_eq (a : Memref sig .tc .smem S52x36 .f32) (ha : a.IsWhole) (x2 : Vec F S52x36 .f32) (off : Fin 2 → ℕ)
    (inb) (g : Fin 52) (q : Fin 36) (h : off = ![g.val, q.val]) : lds a ha x2 off inb = scY x2 g q := by
  subst h
  unfold lds scY
  rw [Memref.IsWhole.readAt_unread]
  congr 1
  funext d
  match d with
  | ⟨0, _⟩ => exact Fin.ext (show g.val + 1 * 0 = g.val by omega)
  | ⟨1, _⟩ => exact Fin.ext (show q.val + 1 * 0 = q.val by omega)

theorem ldw_eq (a : Memref sig .tc .vmem S6656x512 .fp8e4m3) (ha : a.IsWhole) (x1 : Vec F S6656x512 .fp8e4m3) (r o : ℕ) (inb)
    (g : Fin 52) (q : Fin 4) (hr : r = 128 * g.val) (ho : o = 128 * q.val) : ldw a ha x1 r o inb = wY x1 g q := by
  subst hr ho
  funext y
  unfold ldw wY
  rw [Memref.IsWhole.readAt_unread]
  congr 1
  funext d
  match d with
  | ⟨0, _⟩ => exact Fin.ext (show 128 * g.val + 1 * (y 0).val = 128 * g.val + (y 0).val by omega)
  | ⟨1, _⟩ => exact Fin.ext (show 128 * q.val + 1 * (y 1).val = 128 * q.val + (y 1).val by omega)

theorem ldx_eq (a : Memref sig .tc .vmem S256x6656 .bf16) (ha : a.IsWhole) (xd : Vec F S256x6656 .bf16) (o : ℕ) (inb)
    (k : Fin 26) (ho : o = 256 * k.val) : ldx a ha xd o inb = xY xd k := by
  subst ho
  funext y
  unfold ldx xY
  rw [Memref.IsWhole.readAt_unread]
  congr 1
  funext d
  match d with
  | ⟨0, _⟩ => exact Fin.ext (show 0 + 1 * (y 0).val = (y 0).val by omega)
  | ⟨1, _⟩ => exact Fin.ext (show 256 * k.val + 1 * (y 1).val = 256 * k.val + (y 1).val by omega)

/-- The step at pair k from equal operands. -/
theorem stepAt_of (xd : Vec F S256x6656 .bf16) (x1 : Vec F S6656x512 .fp8e4m3) (x2 : Vec F S52x36 .f32) (j : Fin 9) (k : Fin 26)
    {acc acc' : FVec F S256x512 .f32} (h : acc = acc') {s00 s10 s01 s11 s02 s12 s03 s13 : Elt F .f32} {w00 w10 w01 w11 w02 w12 w03 w13 : Vec F S128x128 .fp8e4m3} {xk : Vec F S256x256 .bf16}
    (h1 : s00 = scY x2 ⟨2 * k.val, by omega⟩ ⟨4 * j.val, by omega⟩) (h2 : w00 = wY x1 ⟨2 * k.val, by omega⟩ 0)
    (h3 : s10 = scY x2 ⟨2 * k.val + 1, by omega⟩ ⟨4 * j.val, by omega⟩) (h4 : w10 = wY x1 ⟨2 * k.val + 1, by omega⟩ 0)
    (h5 : s01 = scY x2 ⟨2 * k.val, by omega⟩ ⟨4 * j.val + 1, by omega⟩) (h6 : w01 = wY x1 ⟨2 * k.val, by omega⟩ 1)
    (h7 : s11 = scY x2 ⟨2 * k.val + 1, by omega⟩ ⟨4 * j.val + 1, by omega⟩) (h8 : w11 = wY x1 ⟨2 * k.val + 1, by omega⟩ 1)
    (h9 : s02 = scY x2 ⟨2 * k.val, by omega⟩ ⟨4 * j.val + 2, by omega⟩) (h10 : w02 = wY x1 ⟨2 * k.val, by omega⟩ 2)
    (h11 : s12 = scY x2 ⟨2 * k.val + 1, by omega⟩ ⟨4 * j.val + 2, by omega⟩) (h12 : w12 = wY x1 ⟨2 * k.val + 1, by omega⟩ 2)
    (h13 : s03 = scY x2 ⟨2 * k.val, by omega⟩ ⟨4 * j.val + 3, by omega⟩) (h14 : w03 = wY x1 ⟨2 * k.val, by omega⟩ 3)
    (h15 : s13 = scY x2 ⟨2 * k.val + 1, by omega⟩ ⟨4 * j.val + 3, by omega⟩) (h16 : w13 = wY x1 ⟨2 * k.val + 1, by omega⟩ 3)
    (h17 : xk = xY xd k) :
    stepY acc s00 w00 s10 w10 s01 w01 s11 w11 s02 w02 s12 w12 s03 w03 s13 w13 xk = stepAt xd x1 x2 j k acc' := by
  subst h h1 h2 h3 h4 h5 h6 h7 h8 h9 h10 h11 h12 h13 h14 h15 h16 h17
  rfl

section
variable (i : grid0.Coords) (arg2 : Memref sig .tc .vmem S6656x512 .fp8e4m3) (harg2 : arg2.IsWhole)
  (arg3 : Memref sig .tc .smem S52x36 .f32) (harg3 : arg3.IsWhole) (arg7 : Memref sig .tc .vmem S256x6656 .bf16) (harg7 : arg7.IsWhole)
  (xd : Vec F S256x6656 .bf16) (x1 : Vec F S6656x512 .fp8e4m3) (x2 : Vec F S52x36 .f32)

/-! ### The accumulators as the body computes them -/

def accL0 : FVec F S256x512 .f32 := broadcast S256x512 (Scalar.ofBits .f32 0x00000000#32)
def accL1 : FVec F S256x512 .f32 :=
  stepY accL0
    (lds arg3 harg3 x2 (k0_off1 i 0#32) (k0_off1_inb i 0)) (ldw arg2 harg2 x1 0 0 inb_S6656x512_S128x128_0_0)
    (lds arg3 harg3 x2 (k0_off2 i 0#32) (k0_off2_inb i 0)) (ldw arg2 harg2 x1 128 0 inb_S6656x512_S128x128_128_0)
    (lds arg3 harg3 x2 (k0_off1 i 1#32) (k0_off1_inb i 1)) (ldw arg2 harg2 x1 0 128 inb_S6656x512_S128x128_0_128)
    (lds arg3 harg3 x2 (k0_off2 i 1#32) (k0_off2_inb i 1)) (ldw arg2 harg2 x1 128 128 inb_S6656x512_S128x128_128_128)
    (lds arg3 harg3 x2 (k0_off1 i 2#32) (k0_off1_inb i 2)) (ldw arg2 harg2 x1 0 256 inb_S6656x512_S128x128_0_256)
    (lds arg3 harg3 x2 (k0_off2 i 2#32) (k0_off2_inb i 2)) (ldw arg2 harg2 x1 128 256 inb_S6656x512_S128x128_128_256)
    (lds arg3 harg3 x2 (k0_off1 i 3#32) (k0_off1_inb i 3)) (ldw arg2 harg2 x1 0 384 inb_S6656x512_S128x128_0_384)
    (lds arg3 harg3 x2 (k0_off2 i 3#32) (k0_off2_inb i 3)) (ldw arg2 harg2 x1 128 384 inb_S6656x512_S128x128_128_384)
    (ldx arg7 harg7 xd 0 inb_S256x6656_S256x256_0_0)
def accL2 : FVec F S256x512 .f32 :=
  stepY (accL1 i arg2 harg2 arg3 harg3 arg7 harg7 xd x1 x2)
    (lds arg3 harg3 x2 (k0_off3 i 0#32) (k0_off3_inb i 0)) (ldw arg2 harg2 x1 256 0 inb_S6656x512_S128x128_256_0)
    (lds arg3 harg3 x2 (k0_off4 i 0#32) (k0_off4_inb i 0)) (ldw arg2 harg2 x1 384 0 inb_S6656x512_S128x128_384_0)
    (lds arg3 harg3 x2 (k0_off3 i 1#32) (k0_off3_inb i 1)) (ldw arg2 harg2 x1 256 128 inb_S6656x512_S128x128_256_128)
    (lds arg3 harg3 x2 (k0_off4 i 1#32) (k0_off4_inb i 1)) (ldw arg2 harg2 x1 384 128 inb_S6656x512_S128x128_384_128)
    (lds arg3 harg3 x2 (k0_off3 i 2#32) (k0_off3_inb i 2)) (ldw arg2 harg2 x1 256 256 inb_S6656x512_S128x128_256_256)
    (lds arg3 harg3 x2 (k0_off4 i 2#32) (k0_off4_inb i 2)) (ldw arg2 harg2 x1 384 256 inb_S6656x512_S128x128_384_256)
    (lds arg3 harg3 x2 (k0_off3 i 3#32) (k0_off3_inb i 3)) (ldw arg2 harg2 x1 256 384 inb_S6656x512_S128x128_256_384)
    (lds arg3 harg3 x2 (k0_off4 i 3#32) (k0_off4_inb i 3)) (ldw arg2 harg2 x1 384 384 inb_S6656x512_S128x128_384_384)
    (ldx arg7 harg7 xd 256 inb_S256x6656_S256x256_0_256)
def accL3 : FVec F S256x512 .f32 :=
  stepY (accL2 i arg2 harg2 arg3 harg3 arg7 harg7 xd x1 x2)
    (lds arg3 harg3 x2 (k0_off5 i 0#32) (k0_off5_inb i 0)) (ldw arg2 harg2 x1 512 0 inb_S6656x512_S128x128_512_0)
    (lds arg3 harg3 x2 (k0_off6 i 0#32) (k0_off6_inb i 0)) (ldw arg2 harg2 x1 640 0 inb_S6656x512_S128x128_640_0)
    (lds arg3 harg3 x2 (k0_off5 i 1#32) (k0_off5_inb i 1)) (ldw arg2 harg2 x1 512 128 inb_S6656x512_S128x128_512_128)
    (lds arg3 harg3 x2 (k0_off6 i 1#32) (k0_off6_inb i 1)) (ldw arg2 harg2 x1 640 128 inb_S6656x512_S128x128_640_128)
    (lds arg3 harg3 x2 (k0_off5 i 2#32) (k0_off5_inb i 2)) (ldw arg2 harg2 x1 512 256 inb_S6656x512_S128x128_512_256)
    (lds arg3 harg3 x2 (k0_off6 i 2#32) (k0_off6_inb i 2)) (ldw arg2 harg2 x1 640 256 inb_S6656x512_S128x128_640_256)
    (lds arg3 harg3 x2 (k0_off5 i 3#32) (k0_off5_inb i 3)) (ldw arg2 harg2 x1 512 384 inb_S6656x512_S128x128_512_384)
    (lds arg3 harg3 x2 (k0_off6 i 3#32) (k0_off6_inb i 3)) (ldw arg2 harg2 x1 640 384 inb_S6656x512_S128x128_640_384)
    (ldx arg7 harg7 xd 512 inb_S256x6656_S256x256_0_512)
def accL4 : FVec F S256x512 .f32 :=
  stepY (accL3 i arg2 harg2 arg3 harg3 arg7 harg7 xd x1 x2)
    (lds arg3 harg3 x2 (k0_off7 i 0#32) (k0_off7_inb i 0)) (ldw arg2 harg2 x1 768 0 inb_S6656x512_S128x128_768_0)
    (lds arg3 harg3 x2 (k0_off8 i 0#32) (k0_off8_inb i 0)) (ldw arg2 harg2 x1 896 0 inb_S6656x512_S128x128_896_0)
    (lds arg3 harg3 x2 (k0_off7 i 1#32) (k0_off7_inb i 1)) (ldw arg2 harg2 x1 768 128 inb_S6656x512_S128x128_768_128)
    (lds arg3 harg3 x2 (k0_off8 i 1#32) (k0_off8_inb i 1)) (ldw arg2 harg2 x1 896 128 inb_S6656x512_S128x128_896_128)
    (lds arg3 harg3 x2 (k0_off7 i 2#32) (k0_off7_inb i 2)) (ldw arg2 harg2 x1 768 256 inb_S6656x512_S128x128_768_256)
    (lds arg3 harg3 x2 (k0_off8 i 2#32) (k0_off8_inb i 2)) (ldw arg2 harg2 x1 896 256 inb_S6656x512_S128x128_896_256)
    (lds arg3 harg3 x2 (k0_off7 i 3#32) (k0_off7_inb i 3)) (ldw arg2 harg2 x1 768 384 inb_S6656x512_S128x128_768_384)
    (lds arg3 harg3 x2 (k0_off8 i 3#32) (k0_off8_inb i 3)) (ldw arg2 harg2 x1 896 384 inb_S6656x512_S128x128_896_384)
    (ldx arg7 harg7 xd 768 inb_S256x6656_S256x256_0_768)
def accL5 : FVec F S256x512 .f32 :=
  stepY (accL4 i arg2 harg2 arg3 harg3 arg7 harg7 xd x1 x2)
    (lds arg3 harg3 x2 (k0_off9 i 0#32) (k0_off9_inb i 0)) (ldw arg2 harg2 x1 1024 0 inb_S6656x512_S128x128_1024_0)
    (lds arg3 harg3 x2 (k0_off10 i 0#32) (k0_off10_inb i 0)) (ldw arg2 harg2 x1 1152 0 inb_S6656x512_S128x128_1152_0)
    (lds arg3 harg3 x2 (k0_off9 i 1#32) (k0_off9_inb i 1)) (ldw arg2 harg2 x1 1024 128 inb_S6656x512_S128x128_1024_128)
    (lds arg3 harg3 x2 (k0_off10 i 1#32) (k0_off10_inb i 1)) (ldw arg2 harg2 x1 1152 128 inb_S6656x512_S128x128_1152_128)
    (lds arg3 harg3 x2 (k0_off9 i 2#32) (k0_off9_inb i 2)) (ldw arg2 harg2 x1 1024 256 inb_S6656x512_S128x128_1024_256)
    (lds arg3 harg3 x2 (k0_off10 i 2#32) (k0_off10_inb i 2)) (ldw arg2 harg2 x1 1152 256 inb_S6656x512_S128x128_1152_256)
    (lds arg3 harg3 x2 (k0_off9 i 3#32) (k0_off9_inb i 3)) (ldw arg2 harg2 x1 1024 384 inb_S6656x512_S128x128_1024_384)
    (lds arg3 harg3 x2 (k0_off10 i 3#32) (k0_off10_inb i 3)) (ldw arg2 harg2 x1 1152 384 inb_S6656x512_S128x128_1152_384)
    (ldx arg7 harg7 xd 1024 inb_S256x6656_S256x256_0_1024)
def accL6 : FVec F S256x512 .f32 :=
  stepY (accL5 i arg2 harg2 arg3 harg3 arg7 harg7 xd x1 x2)
    (lds arg3 harg3 x2 (k0_off11 i 0#32) (k0_off11_inb i 0)) (ldw arg2 harg2 x1 1280 0 inb_S6656x512_S128x128_1280_0)
    (lds arg3 harg3 x2 (k0_off12 i 0#32) (k0_off12_inb i 0)) (ldw arg2 harg2 x1 1408 0 inb_S6656x512_S128x128_1408_0)
    (lds arg3 harg3 x2 (k0_off11 i 1#32) (k0_off11_inb i 1)) (ldw arg2 harg2 x1 1280 128 inb_S6656x512_S128x128_1280_128)
    (lds arg3 harg3 x2 (k0_off12 i 1#32) (k0_off12_inb i 1)) (ldw arg2 harg2 x1 1408 128 inb_S6656x512_S128x128_1408_128)
    (lds arg3 harg3 x2 (k0_off11 i 2#32) (k0_off11_inb i 2)) (ldw arg2 harg2 x1 1280 256 inb_S6656x512_S128x128_1280_256)
    (lds arg3 harg3 x2 (k0_off12 i 2#32) (k0_off12_inb i 2)) (ldw arg2 harg2 x1 1408 256 inb_S6656x512_S128x128_1408_256)
    (lds arg3 harg3 x2 (k0_off11 i 3#32) (k0_off11_inb i 3)) (ldw arg2 harg2 x1 1280 384 inb_S6656x512_S128x128_1280_384)
    (lds arg3 harg3 x2 (k0_off12 i 3#32) (k0_off12_inb i 3)) (ldw arg2 harg2 x1 1408 384 inb_S6656x512_S128x128_1408_384)
    (ldx arg7 harg7 xd 1280 inb_S256x6656_S256x256_0_1280)
def accL7 : FVec F S256x512 .f32 :=
  stepY (accL6 i arg2 harg2 arg3 harg3 arg7 harg7 xd x1 x2)
    (lds arg3 harg3 x2 (k0_off13 i 0#32) (k0_off13_inb i 0)) (ldw arg2 harg2 x1 1536 0 inb_S6656x512_S128x128_1536_0)
    (lds arg3 harg3 x2 (k0_off14 i 0#32) (k0_off14_inb i 0)) (ldw arg2 harg2 x1 1664 0 inb_S6656x512_S128x128_1664_0)
    (lds arg3 harg3 x2 (k0_off13 i 1#32) (k0_off13_inb i 1)) (ldw arg2 harg2 x1 1536 128 inb_S6656x512_S128x128_1536_128)
    (lds arg3 harg3 x2 (k0_off14 i 1#32) (k0_off14_inb i 1)) (ldw arg2 harg2 x1 1664 128 inb_S6656x512_S128x128_1664_128)
    (lds arg3 harg3 x2 (k0_off13 i 2#32) (k0_off13_inb i 2)) (ldw arg2 harg2 x1 1536 256 inb_S6656x512_S128x128_1536_256)
    (lds arg3 harg3 x2 (k0_off14 i 2#32) (k0_off14_inb i 2)) (ldw arg2 harg2 x1 1664 256 inb_S6656x512_S128x128_1664_256)
    (lds arg3 harg3 x2 (k0_off13 i 3#32) (k0_off13_inb i 3)) (ldw arg2 harg2 x1 1536 384 inb_S6656x512_S128x128_1536_384)
    (lds arg3 harg3 x2 (k0_off14 i 3#32) (k0_off14_inb i 3)) (ldw arg2 harg2 x1 1664 384 inb_S6656x512_S128x128_1664_384)
    (ldx arg7 harg7 xd 1536 inb_S256x6656_S256x256_0_1536)
def accL8 : FVec F S256x512 .f32 :=
  stepY (accL7 i arg2 harg2 arg3 harg3 arg7 harg7 xd x1 x2)
    (lds arg3 harg3 x2 (k0_off15 i 0#32) (k0_off15_inb i 0)) (ldw arg2 harg2 x1 1792 0 inb_S6656x512_S128x128_1792_0)
    (lds arg3 harg3 x2 (k0_off16 i 0#32) (k0_off16_inb i 0)) (ldw arg2 harg2 x1 1920 0 inb_S6656x512_S128x128_1920_0)
    (lds arg3 harg3 x2 (k0_off15 i 1#32) (k0_off15_inb i 1)) (ldw arg2 harg2 x1 1792 128 inb_S6656x512_S128x128_1792_128)
    (lds arg3 harg3 x2 (k0_off16 i 1#32) (k0_off16_inb i 1)) (ldw arg2 harg2 x1 1920 128 inb_S6656x512_S128x128_1920_128)
    (lds arg3 harg3 x2 (k0_off15 i 2#32) (k0_off15_inb i 2)) (ldw arg2 harg2 x1 1792 256 inb_S6656x512_S128x128_1792_256)
    (lds arg3 harg3 x2 (k0_off16 i 2#32) (k0_off16_inb i 2)) (ldw arg2 harg2 x1 1920 256 inb_S6656x512_S128x128_1920_256)
    (lds arg3 harg3 x2 (k0_off15 i 3#32) (k0_off15_inb i 3)) (ldw arg2 harg2 x1 1792 384 inb_S6656x512_S128x128_1792_384)
    (lds arg3 harg3 x2 (k0_off16 i 3#32) (k0_off16_inb i 3)) (ldw arg2 harg2 x1 1920 384 inb_S6656x512_S128x128_1920_384)
    (ldx arg7 harg7 xd 1792 inb_S256x6656_S256x256_0_1792)
def accL9 : FVec F S256x512 .f32 :=
  stepY (accL8 i arg2 harg2 arg3 harg3 arg7 harg7 xd x1 x2)
    (lds arg3 harg3 x2 (k0_off17 i 0#32) (k0_off17_inb i 0)) (ldw arg2 harg2 x1 2048 0 inb_S6656x512_S128x128_2048_0)
    (lds arg3 harg3 x2 (k0_off18 i 0#32) (k0_off18_inb i 0)) (ldw arg2 harg2 x1 2176 0 inb_S6656x512_S128x128_2176_0)
    (lds arg3 harg3 x2 (k0_off17 i 1#32) (k0_off17_inb i 1)) (ldw arg2 harg2 x1 2048 128 inb_S6656x512_S128x128_2048_128)
    (lds arg3 harg3 x2 (k0_off18 i 1#32) (k0_off18_inb i 1)) (ldw arg2 harg2 x1 2176 128 inb_S6656x512_S128x128_2176_128)
    (lds arg3 harg3 x2 (k0_off17 i 2#32) (k0_off17_inb i 2)) (ldw arg2 harg2 x1 2048 256 inb_S6656x512_S128x128_2048_256)
    (lds arg3 harg3 x2 (k0_off18 i 2#32) (k0_off18_inb i 2)) (ldw arg2 harg2 x1 2176 256 inb_S6656x512_S128x128_2176_256)
    (lds arg3 harg3 x2 (k0_off17 i 3#32) (k0_off17_inb i 3)) (ldw arg2 harg2 x1 2048 384 inb_S6656x512_S128x128_2048_384)
    (lds arg3 harg3 x2 (k0_off18 i 3#32) (k0_off18_inb i 3)) (ldw arg2 harg2 x1 2176 384 inb_S6656x512_S128x128_2176_384)
    (ldx arg7 harg7 xd 2048 inb_S256x6656_S256x256_0_2048)
def accL10 : FVec F S256x512 .f32 :=
  stepY (accL9 i arg2 harg2 arg3 harg3 arg7 harg7 xd x1 x2)
    (lds arg3 harg3 x2 (k0_off19 i 0#32) (k0_off19_inb i 0)) (ldw arg2 harg2 x1 2304 0 inb_S6656x512_S128x128_2304_0)
    (lds arg3 harg3 x2 (k0_off20 i 0#32) (k0_off20_inb i 0)) (ldw arg2 harg2 x1 2432 0 inb_S6656x512_S128x128_2432_0)
    (lds arg3 harg3 x2 (k0_off19 i 1#32) (k0_off19_inb i 1)) (ldw arg2 harg2 x1 2304 128 inb_S6656x512_S128x128_2304_128)
    (lds arg3 harg3 x2 (k0_off20 i 1#32) (k0_off20_inb i 1)) (ldw arg2 harg2 x1 2432 128 inb_S6656x512_S128x128_2432_128)
    (lds arg3 harg3 x2 (k0_off19 i 2#32) (k0_off19_inb i 2)) (ldw arg2 harg2 x1 2304 256 inb_S6656x512_S128x128_2304_256)
    (lds arg3 harg3 x2 (k0_off20 i 2#32) (k0_off20_inb i 2)) (ldw arg2 harg2 x1 2432 256 inb_S6656x512_S128x128_2432_256)
    (lds arg3 harg3 x2 (k0_off19 i 3#32) (k0_off19_inb i 3)) (ldw arg2 harg2 x1 2304 384 inb_S6656x512_S128x128_2304_384)
    (lds arg3 harg3 x2 (k0_off20 i 3#32) (k0_off20_inb i 3)) (ldw arg2 harg2 x1 2432 384 inb_S6656x512_S128x128_2432_384)
    (ldx arg7 harg7 xd 2304 inb_S256x6656_S256x256_0_2304)
def accL11 : FVec F S256x512 .f32 :=
  stepY (accL10 i arg2 harg2 arg3 harg3 arg7 harg7 xd x1 x2)
    (lds arg3 harg3 x2 (k0_off21 i 0#32) (k0_off21_inb i 0)) (ldw arg2 harg2 x1 2560 0 inb_S6656x512_S128x128_2560_0)
    (lds arg3 harg3 x2 (k0_off22 i 0#32) (k0_off22_inb i 0)) (ldw arg2 harg2 x1 2688 0 inb_S6656x512_S128x128_2688_0)
    (lds arg3 harg3 x2 (k0_off21 i 1#32) (k0_off21_inb i 1)) (ldw arg2 harg2 x1 2560 128 inb_S6656x512_S128x128_2560_128)
    (lds arg3 harg3 x2 (k0_off22 i 1#32) (k0_off22_inb i 1)) (ldw arg2 harg2 x1 2688 128 inb_S6656x512_S128x128_2688_128)
    (lds arg3 harg3 x2 (k0_off21 i 2#32) (k0_off21_inb i 2)) (ldw arg2 harg2 x1 2560 256 inb_S6656x512_S128x128_2560_256)
    (lds arg3 harg3 x2 (k0_off22 i 2#32) (k0_off22_inb i 2)) (ldw arg2 harg2 x1 2688 256 inb_S6656x512_S128x128_2688_256)
    (lds arg3 harg3 x2 (k0_off21 i 3#32) (k0_off21_inb i 3)) (ldw arg2 harg2 x1 2560 384 inb_S6656x512_S128x128_2560_384)
    (lds arg3 harg3 x2 (k0_off22 i 3#32) (k0_off22_inb i 3)) (ldw arg2 harg2 x1 2688 384 inb_S6656x512_S128x128_2688_384)
    (ldx arg7 harg7 xd 2560 inb_S256x6656_S256x256_0_2560)
def accL12 : FVec F S256x512 .f32 :=
  stepY (accL11 i arg2 harg2 arg3 harg3 arg7 harg7 xd x1 x2)
    (lds arg3 harg3 x2 (k0_off23 i 0#32) (k0_off23_inb i 0)) (ldw arg2 harg2 x1 2816 0 inb_S6656x512_S128x128_2816_0)
    (lds arg3 harg3 x2 (k0_off24 i 0#32) (k0_off24_inb i 0)) (ldw arg2 harg2 x1 2944 0 inb_S6656x512_S128x128_2944_0)
    (lds arg3 harg3 x2 (k0_off23 i 1#32) (k0_off23_inb i 1)) (ldw arg2 harg2 x1 2816 128 inb_S6656x512_S128x128_2816_128)
    (lds arg3 harg3 x2 (k0_off24 i 1#32) (k0_off24_inb i 1)) (ldw arg2 harg2 x1 2944 128 inb_S6656x512_S128x128_2944_128)
    (lds arg3 harg3 x2 (k0_off23 i 2#32) (k0_off23_inb i 2)) (ldw arg2 harg2 x1 2816 256 inb_S6656x512_S128x128_2816_256)
    (lds arg3 harg3 x2 (k0_off24 i 2#32) (k0_off24_inb i 2)) (ldw arg2 harg2 x1 2944 256 inb_S6656x512_S128x128_2944_256)
    (lds arg3 harg3 x2 (k0_off23 i 3#32) (k0_off23_inb i 3)) (ldw arg2 harg2 x1 2816 384 inb_S6656x512_S128x128_2816_384)
    (lds arg3 harg3 x2 (k0_off24 i 3#32) (k0_off24_inb i 3)) (ldw arg2 harg2 x1 2944 384 inb_S6656x512_S128x128_2944_384)
    (ldx arg7 harg7 xd 2816 inb_S256x6656_S256x256_0_2816)
def accL13 : FVec F S256x512 .f32 :=
  stepY (accL12 i arg2 harg2 arg3 harg3 arg7 harg7 xd x1 x2)
    (lds arg3 harg3 x2 (k0_off25 i 0#32) (k0_off25_inb i 0)) (ldw arg2 harg2 x1 3072 0 inb_S6656x512_S128x128_3072_0)
    (lds arg3 harg3 x2 (k0_off26 i 0#32) (k0_off26_inb i 0)) (ldw arg2 harg2 x1 3200 0 inb_S6656x512_S128x128_3200_0)
    (lds arg3 harg3 x2 (k0_off25 i 1#32) (k0_off25_inb i 1)) (ldw arg2 harg2 x1 3072 128 inb_S6656x512_S128x128_3072_128)
    (lds arg3 harg3 x2 (k0_off26 i 1#32) (k0_off26_inb i 1)) (ldw arg2 harg2 x1 3200 128 inb_S6656x512_S128x128_3200_128)
    (lds arg3 harg3 x2 (k0_off25 i 2#32) (k0_off25_inb i 2)) (ldw arg2 harg2 x1 3072 256 inb_S6656x512_S128x128_3072_256)
    (lds arg3 harg3 x2 (k0_off26 i 2#32) (k0_off26_inb i 2)) (ldw arg2 harg2 x1 3200 256 inb_S6656x512_S128x128_3200_256)
    (lds arg3 harg3 x2 (k0_off25 i 3#32) (k0_off25_inb i 3)) (ldw arg2 harg2 x1 3072 384 inb_S6656x512_S128x128_3072_384)
    (lds arg3 harg3 x2 (k0_off26 i 3#32) (k0_off26_inb i 3)) (ldw arg2 harg2 x1 3200 384 inb_S6656x512_S128x128_3200_384)
    (ldx arg7 harg7 xd 3072 inb_S256x6656_S256x256_0_3072)
def accL14 : FVec F S256x512 .f32 :=
  stepY (accL13 i arg2 harg2 arg3 harg3 arg7 harg7 xd x1 x2)
    (lds arg3 harg3 x2 (k0_off27 i 0#32) (k0_off27_inb i 0)) (ldw arg2 harg2 x1 3328 0 inb_S6656x512_S128x128_3328_0)
    (lds arg3 harg3 x2 (k0_off28 i 0#32) (k0_off28_inb i 0)) (ldw arg2 harg2 x1 3456 0 inb_S6656x512_S128x128_3456_0)
    (lds arg3 harg3 x2 (k0_off27 i 1#32) (k0_off27_inb i 1)) (ldw arg2 harg2 x1 3328 128 inb_S6656x512_S128x128_3328_128)
    (lds arg3 harg3 x2 (k0_off28 i 1#32) (k0_off28_inb i 1)) (ldw arg2 harg2 x1 3456 128 inb_S6656x512_S128x128_3456_128)
    (lds arg3 harg3 x2 (k0_off27 i 2#32) (k0_off27_inb i 2)) (ldw arg2 harg2 x1 3328 256 inb_S6656x512_S128x128_3328_256)
    (lds arg3 harg3 x2 (k0_off28 i 2#32) (k0_off28_inb i 2)) (ldw arg2 harg2 x1 3456 256 inb_S6656x512_S128x128_3456_256)
    (lds arg3 harg3 x2 (k0_off27 i 3#32) (k0_off27_inb i 3)) (ldw arg2 harg2 x1 3328 384 inb_S6656x512_S128x128_3328_384)
    (lds arg3 harg3 x2 (k0_off28 i 3#32) (k0_off28_inb i 3)) (ldw arg2 harg2 x1 3456 384 inb_S6656x512_S128x128_3456_384)
    (ldx arg7 harg7 xd 3328 inb_S256x6656_S256x256_0_3328)
def accL15 : FVec F S256x512 .f32 :=
  stepY (accL14 i arg2 harg2 arg3 harg3 arg7 harg7 xd x1 x2)
    (lds arg3 harg3 x2 (k0_off29 i 0#32) (k0_off29_inb i 0)) (ldw arg2 harg2 x1 3584 0 inb_S6656x512_S128x128_3584_0)
    (lds arg3 harg3 x2 (k0_off30 i 0#32) (k0_off30_inb i 0)) (ldw arg2 harg2 x1 3712 0 inb_S6656x512_S128x128_3712_0)
    (lds arg3 harg3 x2 (k0_off29 i 1#32) (k0_off29_inb i 1)) (ldw arg2 harg2 x1 3584 128 inb_S6656x512_S128x128_3584_128)
    (lds arg3 harg3 x2 (k0_off30 i 1#32) (k0_off30_inb i 1)) (ldw arg2 harg2 x1 3712 128 inb_S6656x512_S128x128_3712_128)
    (lds arg3 harg3 x2 (k0_off29 i 2#32) (k0_off29_inb i 2)) (ldw arg2 harg2 x1 3584 256 inb_S6656x512_S128x128_3584_256)
    (lds arg3 harg3 x2 (k0_off30 i 2#32) (k0_off30_inb i 2)) (ldw arg2 harg2 x1 3712 256 inb_S6656x512_S128x128_3712_256)
    (lds arg3 harg3 x2 (k0_off29 i 3#32) (k0_off29_inb i 3)) (ldw arg2 harg2 x1 3584 384 inb_S6656x512_S128x128_3584_384)
    (lds arg3 harg3 x2 (k0_off30 i 3#32) (k0_off30_inb i 3)) (ldw arg2 harg2 x1 3712 384 inb_S6656x512_S128x128_3712_384)
    (ldx arg7 harg7 xd 3584 inb_S256x6656_S256x256_0_3584)
def accL16 : FVec F S256x512 .f32 :=
  stepY (accL15 i arg2 harg2 arg3 harg3 arg7 harg7 xd x1 x2)
    (lds arg3 harg3 x2 (k0_off31 i 0#32) (k0_off31_inb i 0)) (ldw arg2 harg2 x1 3840 0 inb_S6656x512_S128x128_3840_0)
    (lds arg3 harg3 x2 (k0_off32 i 0#32) (k0_off32_inb i 0)) (ldw arg2 harg2 x1 3968 0 inb_S6656x512_S128x128_3968_0)
    (lds arg3 harg3 x2 (k0_off31 i 1#32) (k0_off31_inb i 1)) (ldw arg2 harg2 x1 3840 128 inb_S6656x512_S128x128_3840_128)
    (lds arg3 harg3 x2 (k0_off32 i 1#32) (k0_off32_inb i 1)) (ldw arg2 harg2 x1 3968 128 inb_S6656x512_S128x128_3968_128)
    (lds arg3 harg3 x2 (k0_off31 i 2#32) (k0_off31_inb i 2)) (ldw arg2 harg2 x1 3840 256 inb_S6656x512_S128x128_3840_256)
    (lds arg3 harg3 x2 (k0_off32 i 2#32) (k0_off32_inb i 2)) (ldw arg2 harg2 x1 3968 256 inb_S6656x512_S128x128_3968_256)
    (lds arg3 harg3 x2 (k0_off31 i 3#32) (k0_off31_inb i 3)) (ldw arg2 harg2 x1 3840 384 inb_S6656x512_S128x128_3840_384)
    (lds arg3 harg3 x2 (k0_off32 i 3#32) (k0_off32_inb i 3)) (ldw arg2 harg2 x1 3968 384 inb_S6656x512_S128x128_3968_384)
    (ldx arg7 harg7 xd 3840 inb_S256x6656_S256x256_0_3840)
def accL17 : FVec F S256x512 .f32 :=
  stepY (accL16 i arg2 harg2 arg3 harg3 arg7 harg7 xd x1 x2)
    (lds arg3 harg3 x2 (k0_off33 i 0#32) (k0_off33_inb i 0)) (ldw arg2 harg2 x1 4096 0 inb_S6656x512_S128x128_4096_0)
    (lds arg3 harg3 x2 (k0_off34 i 0#32) (k0_off34_inb i 0)) (ldw arg2 harg2 x1 4224 0 inb_S6656x512_S128x128_4224_0)
    (lds arg3 harg3 x2 (k0_off33 i 1#32) (k0_off33_inb i 1)) (ldw arg2 harg2 x1 4096 128 inb_S6656x512_S128x128_4096_128)
    (lds arg3 harg3 x2 (k0_off34 i 1#32) (k0_off34_inb i 1)) (ldw arg2 harg2 x1 4224 128 inb_S6656x512_S128x128_4224_128)
    (lds arg3 harg3 x2 (k0_off33 i 2#32) (k0_off33_inb i 2)) (ldw arg2 harg2 x1 4096 256 inb_S6656x512_S128x128_4096_256)
    (lds arg3 harg3 x2 (k0_off34 i 2#32) (k0_off34_inb i 2)) (ldw arg2 harg2 x1 4224 256 inb_S6656x512_S128x128_4224_256)
    (lds arg3 harg3 x2 (k0_off33 i 3#32) (k0_off33_inb i 3)) (ldw arg2 harg2 x1 4096 384 inb_S6656x512_S128x128_4096_384)
    (lds arg3 harg3 x2 (k0_off34 i 3#32) (k0_off34_inb i 3)) (ldw arg2 harg2 x1 4224 384 inb_S6656x512_S128x128_4224_384)
    (ldx arg7 harg7 xd 4096 inb_S256x6656_S256x256_0_4096)
def accL18 : FVec F S256x512 .f32 :=
  stepY (accL17 i arg2 harg2 arg3 harg3 arg7 harg7 xd x1 x2)
    (lds arg3 harg3 x2 (k0_off35 i 0#32) (k0_off35_inb i 0)) (ldw arg2 harg2 x1 4352 0 inb_S6656x512_S128x128_4352_0)
    (lds arg3 harg3 x2 (k0_off36 i 0#32) (k0_off36_inb i 0)) (ldw arg2 harg2 x1 4480 0 inb_S6656x512_S128x128_4480_0)
    (lds arg3 harg3 x2 (k0_off35 i 1#32) (k0_off35_inb i 1)) (ldw arg2 harg2 x1 4352 128 inb_S6656x512_S128x128_4352_128)
    (lds arg3 harg3 x2 (k0_off36 i 1#32) (k0_off36_inb i 1)) (ldw arg2 harg2 x1 4480 128 inb_S6656x512_S128x128_4480_128)
    (lds arg3 harg3 x2 (k0_off35 i 2#32) (k0_off35_inb i 2)) (ldw arg2 harg2 x1 4352 256 inb_S6656x512_S128x128_4352_256)
    (lds arg3 harg3 x2 (k0_off36 i 2#32) (k0_off36_inb i 2)) (ldw arg2 harg2 x1 4480 256 inb_S6656x512_S128x128_4480_256)
    (lds arg3 harg3 x2 (k0_off35 i 3#32) (k0_off35_inb i 3)) (ldw arg2 harg2 x1 4352 384 inb_S6656x512_S128x128_4352_384)
    (lds arg3 harg3 x2 (k0_off36 i 3#32) (k0_off36_inb i 3)) (ldw arg2 harg2 x1 4480 384 inb_S6656x512_S128x128_4480_384)
    (ldx arg7 harg7 xd 4352 inb_S256x6656_S256x256_0_4352)
def accL19 : FVec F S256x512 .f32 :=
  stepY (accL18 i arg2 harg2 arg3 harg3 arg7 harg7 xd x1 x2)
    (lds arg3 harg3 x2 (k0_off37 i 0#32) (k0_off37_inb i 0)) (ldw arg2 harg2 x1 4608 0 inb_S6656x512_S128x128_4608_0)
    (lds arg3 harg3 x2 (k0_off38 i 0#32) (k0_off38_inb i 0)) (ldw arg2 harg2 x1 4736 0 inb_S6656x512_S128x128_4736_0)
    (lds arg3 harg3 x2 (k0_off37 i 1#32) (k0_off37_inb i 1)) (ldw arg2 harg2 x1 4608 128 inb_S6656x512_S128x128_4608_128)
    (lds arg3 harg3 x2 (k0_off38 i 1#32) (k0_off38_inb i 1)) (ldw arg2 harg2 x1 4736 128 inb_S6656x512_S128x128_4736_128)
    (lds arg3 harg3 x2 (k0_off37 i 2#32) (k0_off37_inb i 2)) (ldw arg2 harg2 x1 4608 256 inb_S6656x512_S128x128_4608_256)
    (lds arg3 harg3 x2 (k0_off38 i 2#32) (k0_off38_inb i 2)) (ldw arg2 harg2 x1 4736 256 inb_S6656x512_S128x128_4736_256)
    (lds arg3 harg3 x2 (k0_off37 i 3#32) (k0_off37_inb i 3)) (ldw arg2 harg2 x1 4608 384 inb_S6656x512_S128x128_4608_384)
    (lds arg3 harg3 x2 (k0_off38 i 3#32) (k0_off38_inb i 3)) (ldw arg2 harg2 x1 4736 384 inb_S6656x512_S128x128_4736_384)
    (ldx arg7 harg7 xd 4608 inb_S256x6656_S256x256_0_4608)
def accL20 : FVec F S256x512 .f32 :=
  stepY (accL19 i arg2 harg2 arg3 harg3 arg7 harg7 xd x1 x2)
    (lds arg3 harg3 x2 (k0_off39 i 0#32) (k0_off39_inb i 0)) (ldw arg2 harg2 x1 4864 0 inb_S6656x512_S128x128_4864_0)
    (lds arg3 harg3 x2 (k0_off40 i 0#32) (k0_off40_inb i 0)) (ldw arg2 harg2 x1 4992 0 inb_S6656x512_S128x128_4992_0)
    (lds arg3 harg3 x2 (k0_off39 i 1#32) (k0_off39_inb i 1)) (ldw arg2 harg2 x1 4864 128 inb_S6656x512_S128x128_4864_128)
    (lds arg3 harg3 x2 (k0_off40 i 1#32) (k0_off40_inb i 1)) (ldw arg2 harg2 x1 4992 128 inb_S6656x512_S128x128_4992_128)
    (lds arg3 harg3 x2 (k0_off39 i 2#32) (k0_off39_inb i 2)) (ldw arg2 harg2 x1 4864 256 inb_S6656x512_S128x128_4864_256)
    (lds arg3 harg3 x2 (k0_off40 i 2#32) (k0_off40_inb i 2)) (ldw arg2 harg2 x1 4992 256 inb_S6656x512_S128x128_4992_256)
    (lds arg3 harg3 x2 (k0_off39 i 3#32) (k0_off39_inb i 3)) (ldw arg2 harg2 x1 4864 384 inb_S6656x512_S128x128_4864_384)
    (lds arg3 harg3 x2 (k0_off40 i 3#32) (k0_off40_inb i 3)) (ldw arg2 harg2 x1 4992 384 inb_S6656x512_S128x128_4992_384)
    (ldx arg7 harg7 xd 4864 inb_S256x6656_S256x256_0_4864)
def accL21 : FVec F S256x512 .f32 :=
  stepY (accL20 i arg2 harg2 arg3 harg3 arg7 harg7 xd x1 x2)
    (lds arg3 harg3 x2 (k0_off41 i 0#32) (k0_off41_inb i 0)) (ldw arg2 harg2 x1 5120 0 inb_S6656x512_S128x128_5120_0)
    (lds arg3 harg3 x2 (k0_off42 i 0#32) (k0_off42_inb i 0)) (ldw arg2 harg2 x1 5248 0 inb_S6656x512_S128x128_5248_0)
    (lds arg3 harg3 x2 (k0_off41 i 1#32) (k0_off41_inb i 1)) (ldw arg2 harg2 x1 5120 128 inb_S6656x512_S128x128_5120_128)
    (lds arg3 harg3 x2 (k0_off42 i 1#32) (k0_off42_inb i 1)) (ldw arg2 harg2 x1 5248 128 inb_S6656x512_S128x128_5248_128)
    (lds arg3 harg3 x2 (k0_off41 i 2#32) (k0_off41_inb i 2)) (ldw arg2 harg2 x1 5120 256 inb_S6656x512_S128x128_5120_256)
    (lds arg3 harg3 x2 (k0_off42 i 2#32) (k0_off42_inb i 2)) (ldw arg2 harg2 x1 5248 256 inb_S6656x512_S128x128_5248_256)
    (lds arg3 harg3 x2 (k0_off41 i 3#32) (k0_off41_inb i 3)) (ldw arg2 harg2 x1 5120 384 inb_S6656x512_S128x128_5120_384)
    (lds arg3 harg3 x2 (k0_off42 i 3#32) (k0_off42_inb i 3)) (ldw arg2 harg2 x1 5248 384 inb_S6656x512_S128x128_5248_384)
    (ldx arg7 harg7 xd 5120 inb_S256x6656_S256x256_0_5120)
def accL22 : FVec F S256x512 .f32 :=
  stepY (accL21 i arg2 harg2 arg3 harg3 arg7 harg7 xd x1 x2)
    (lds arg3 harg3 x2 (k0_off43 i 0#32) (k0_off43_inb i 0)) (ldw arg2 harg2 x1 5376 0 inb_S6656x512_S128x128_5376_0)
    (lds arg3 harg3 x2 (k0_off44 i 0#32) (k0_off44_inb i 0)) (ldw arg2 harg2 x1 5504 0 inb_S6656x512_S128x128_5504_0)
    (lds arg3 harg3 x2 (k0_off43 i 1#32) (k0_off43_inb i 1)) (ldw arg2 harg2 x1 5376 128 inb_S6656x512_S128x128_5376_128)
    (lds arg3 harg3 x2 (k0_off44 i 1#32) (k0_off44_inb i 1)) (ldw arg2 harg2 x1 5504 128 inb_S6656x512_S128x128_5504_128)
    (lds arg3 harg3 x2 (k0_off43 i 2#32) (k0_off43_inb i 2)) (ldw arg2 harg2 x1 5376 256 inb_S6656x512_S128x128_5376_256)
    (lds arg3 harg3 x2 (k0_off44 i 2#32) (k0_off44_inb i 2)) (ldw arg2 harg2 x1 5504 256 inb_S6656x512_S128x128_5504_256)
    (lds arg3 harg3 x2 (k0_off43 i 3#32) (k0_off43_inb i 3)) (ldw arg2 harg2 x1 5376 384 inb_S6656x512_S128x128_5376_384)
    (lds arg3 harg3 x2 (k0_off44 i 3#32) (k0_off44_inb i 3)) (ldw arg2 harg2 x1 5504 384 inb_S6656x512_S128x128_5504_384)
    (ldx arg7 harg7 xd 5376 inb_S256x6656_S256x256_0_5376)
def accL23 : FVec F S256x512 .f32 :=
  stepY (accL22 i arg2 harg2 arg3 harg3 arg7 harg7 xd x1 x2)
    (lds arg3 harg3 x2 (k0_off45 i 0#32) (k0_off45_inb i 0)) (ldw arg2 harg2 x1 5632 0 inb_S6656x512_S128x128_5632_0)
    (lds arg3 harg3 x2 (k0_off46 i 0#32) (k0_off46_inb i 0)) (ldw arg2 harg2 x1 5760 0 inb_S6656x512_S128x128_5760_0)
    (lds arg3 harg3 x2 (k0_off45 i 1#32) (k0_off45_inb i 1)) (ldw arg2 harg2 x1 5632 128 inb_S6656x512_S128x128_5632_128)
    (lds arg3 harg3 x2 (k0_off46 i 1#32) (k0_off46_inb i 1)) (ldw arg2 harg2 x1 5760 128 inb_S6656x512_S128x128_5760_128)
    (lds arg3 harg3 x2 (k0_off45 i 2#32) (k0_off45_inb i 2)) (ldw arg2 harg2 x1 5632 256 inb_S6656x512_S128x128_5632_256)
    (lds arg3 harg3 x2 (k0_off46 i 2#32) (k0_off46_inb i 2)) (ldw arg2 harg2 x1 5760 256 inb_S6656x512_S128x128_5760_256)
    (lds arg3 harg3 x2 (k0_off45 i 3#32) (k0_off45_inb i 3)) (ldw arg2 harg2 x1 5632 384 inb_S6656x512_S128x128_5632_384)
    (lds arg3 harg3 x2 (k0_off46 i 3#32) (k0_off46_inb i 3)) (ldw arg2 harg2 x1 5760 384 inb_S6656x512_S128x128_5760_384)
    (ldx arg7 harg7 xd 5632 inb_S256x6656_S256x256_0_5632)
def accL24 : FVec F S256x512 .f32 :=
  stepY (accL23 i arg2 harg2 arg3 harg3 arg7 harg7 xd x1 x2)
    (lds arg3 harg3 x2 (k0_off47 i 0#32) (k0_off47_inb i 0)) (ldw arg2 harg2 x1 5888 0 inb_S6656x512_S128x128_5888_0)
    (lds arg3 harg3 x2 (k0_off48 i 0#32) (k0_off48_inb i 0)) (ldw arg2 harg2 x1 6016 0 inb_S6656x512_S128x128_6016_0)
    (lds arg3 harg3 x2 (k0_off47 i 1#32) (k0_off47_inb i 1)) (ldw arg2 harg2 x1 5888 128 inb_S6656x512_S128x128_5888_128)
    (lds arg3 harg3 x2 (k0_off48 i 1#32) (k0_off48_inb i 1)) (ldw arg2 harg2 x1 6016 128 inb_S6656x512_S128x128_6016_128)
    (lds arg3 harg3 x2 (k0_off47 i 2#32) (k0_off47_inb i 2)) (ldw arg2 harg2 x1 5888 256 inb_S6656x512_S128x128_5888_256)
    (lds arg3 harg3 x2 (k0_off48 i 2#32) (k0_off48_inb i 2)) (ldw arg2 harg2 x1 6016 256 inb_S6656x512_S128x128_6016_256)
    (lds arg3 harg3 x2 (k0_off47 i 3#32) (k0_off47_inb i 3)) (ldw arg2 harg2 x1 5888 384 inb_S6656x512_S128x128_5888_384)
    (lds arg3 harg3 x2 (k0_off48 i 3#32) (k0_off48_inb i 3)) (ldw arg2 harg2 x1 6016 384 inb_S6656x512_S128x128_6016_384)
    (ldx arg7 harg7 xd 5888 inb_S256x6656_S256x256_0_5888)
def accL25 : FVec F S256x512 .f32 :=
  stepY (accL24 i arg2 harg2 arg3 harg3 arg7 harg7 xd x1 x2)
    (lds arg3 harg3 x2 (k0_off49 i 0#32) (k0_off49_inb i 0)) (ldw arg2 harg2 x1 6144 0 inb_S6656x512_S128x128_6144_0)
    (lds arg3 harg3 x2 (k0_off50 i 0#32) (k0_off50_inb i 0)) (ldw arg2 harg2 x1 6272 0 inb_S6656x512_S128x128_6272_0)
    (lds arg3 harg3 x2 (k0_off49 i 1#32) (k0_off49_inb i 1)) (ldw arg2 harg2 x1 6144 128 inb_S6656x512_S128x128_6144_128)
    (lds arg3 harg3 x2 (k0_off50 i 1#32) (k0_off50_inb i 1)) (ldw arg2 harg2 x1 6272 128 inb_S6656x512_S128x128_6272_128)
    (lds arg3 harg3 x2 (k0_off49 i 2#32) (k0_off49_inb i 2)) (ldw arg2 harg2 x1 6144 256 inb_S6656x512_S128x128_6144_256)
    (lds arg3 harg3 x2 (k0_off50 i 2#32) (k0_off50_inb i 2)) (ldw arg2 harg2 x1 6272 256 inb_S6656x512_S128x128_6272_256)
    (lds arg3 harg3 x2 (k0_off49 i 3#32) (k0_off49_inb i 3)) (ldw arg2 harg2 x1 6144 384 inb_S6656x512_S128x128_6144_384)
    (lds arg3 harg3 x2 (k0_off50 i 3#32) (k0_off50_inb i 3)) (ldw arg2 harg2 x1 6272 384 inb_S6656x512_S128x128_6272_384)
    (ldx arg7 harg7 xd 6144 inb_S256x6656_S256x256_0_6144)
def accL26 : FVec F S256x512 .f32 :=
  stepY (accL25 i arg2 harg2 arg3 harg3 arg7 harg7 xd x1 x2)
    (lds arg3 harg3 x2 (k0_off51 i 0#32) (k0_off51_inb i 0)) (ldw arg2 harg2 x1 6400 0 inb_S6656x512_S128x128_6400_0)
    (lds arg3 harg3 x2 (k0_off52 i 0#32) (k0_off52_inb i 0)) (ldw arg2 harg2 x1 6528 0 inb_S6656x512_S128x128_6528_0)
    (lds arg3 harg3 x2 (k0_off51 i 1#32) (k0_off51_inb i 1)) (ldw arg2 harg2 x1 6400 128 inb_S6656x512_S128x128_6400_128)
    (lds arg3 harg3 x2 (k0_off52 i 1#32) (k0_off52_inb i 1)) (ldw arg2 harg2 x1 6528 128 inb_S6656x512_S128x128_6528_128)
    (lds arg3 harg3 x2 (k0_off51 i 2#32) (k0_off51_inb i 2)) (ldw arg2 harg2 x1 6400 256 inb_S6656x512_S128x128_6400_256)
    (lds arg3 harg3 x2 (k0_off52 i 2#32) (k0_off52_inb i 2)) (ldw arg2 harg2 x1 6528 256 inb_S6656x512_S128x128_6528_256)
    (lds arg3 harg3 x2 (k0_off51 i 3#32) (k0_off51_inb i 3)) (ldw arg2 harg2 x1 6400 384 inb_S6656x512_S128x128_6400_384)
    (lds arg3 harg3 x2 (k0_off52 i 3#32) (k0_off52_inb i 3)) (ldw arg2 harg2 x1 6528 384 inb_S6656x512_S128x128_6528_384)
    (ldx arg7 harg7 xd 6400 inb_S256x6656_S256x256_0_6400)

/-! ### They are the accumulators read off the arrays -/

theorem off_eq (i : grid0.Coords) (n : ℕ) (r : Fin 4) (g : Fin 52) (q : Fin 36) (hg : n = g.val) (hq : 4 * (i 0).val + r.val = q.val) :
    (![n, 4 * (i 0).val + r.val] : Fin 2 → ℕ) = ![g.val, q.val] := by
  rw [hg, hq]

theorem accL_eq0 : (accL0 : FVec F S256x512 .f32) = accY xd x1 x2 (i 0) 0 (by omega) := rfl
theorem accL_eq1 : accL1 i arg2 harg2 arg3 harg3 arg7 harg7 xd x1 x2 = accY xd x1 x2 (i 0) 1 (by omega) :=
  stepAt_of xd x1 x2 (i 0) ⟨0, by omega⟩ (accL_eq0 i xd x1 x2)
    (lds_eq _ _ _ _ _ _ _ ((k0_off1_eq i 0).trans (off_eq i _ _ _ _ rfl rfl))) (ldw_eq _ _ _ _ _ _ _ _ rfl rfl)
    (lds_eq _ _ _ _ _ _ _ ((k0_off2_eq i 0).trans (off_eq i _ _ _ _ rfl rfl))) (ldw_eq _ _ _ _ _ _ _ _ rfl rfl)
    (lds_eq _ _ _ _ _ _ _ ((k0_off1_eq i 1).trans (off_eq i _ _ _ _ rfl rfl))) (ldw_eq _ _ _ _ _ _ _ _ rfl rfl)
    (lds_eq _ _ _ _ _ _ _ ((k0_off2_eq i 1).trans (off_eq i _ _ _ _ rfl rfl))) (ldw_eq _ _ _ _ _ _ _ _ rfl rfl)
    (lds_eq _ _ _ _ _ _ _ ((k0_off1_eq i 2).trans (off_eq i _ _ _ _ rfl rfl))) (ldw_eq _ _ _ _ _ _ _ _ rfl rfl)
    (lds_eq _ _ _ _ _ _ _ ((k0_off2_eq i 2).trans (off_eq i _ _ _ _ rfl rfl))) (ldw_eq _ _ _ _ _ _ _ _ rfl rfl)
    (lds_eq _ _ _ _ _ _ _ ((k0_off1_eq i 3).trans (off_eq i _ _ _ _ rfl rfl))) (ldw_eq _ _ _ _ _ _ _ _ rfl rfl)
    (lds_eq _ _ _ _ _ _ _ ((k0_off2_eq i 3).trans (off_eq i _ _ _ _ rfl rfl))) (ldw_eq _ _ _ _ _ _ _ _ rfl rfl)
    (ldx_eq _ _ _ _ _ _ rfl)
theorem accL_eq2 : accL2 i arg2 harg2 arg3 harg3 arg7 harg7 xd x1 x2 = accY xd x1 x2 (i 0) 2 (by omega) :=
  stepAt_of xd x1 x2 (i 0) ⟨1, by omega⟩ (accL_eq1 i arg2 harg2 arg3 harg3 arg7 harg7 xd x1 x2)
    (lds_eq _ _ _ _ _ _ _ ((k0_off3_eq i 0).trans (off_eq i _ _ _ _ rfl rfl))) (ldw_eq _ _ _ _ _ _ _ _ rfl rfl)
    (lds_eq _ _ _ _ _ _ _ ((k0_off4_eq i 0).trans (off_eq i _ _ _ _ rfl rfl))) (ldw_eq _ _ _ _ _ _ _ _ rfl rfl)
    (lds_eq _ _ _ _ _ _ _ ((k0_off3_eq i 1).trans (off_eq i _ _ _ _ rfl rfl))) (ldw_eq _ _ _ _ _ _ _ _ rfl rfl)
    (lds_eq _ _ _ _ _ _ _ ((k0_off4_eq i 1).trans (off_eq i _ _ _ _ rfl rfl))) (ldw_eq _ _ _ _ _ _ _ _ rfl rfl)
    (lds_eq _ _ _ _ _ _ _ ((k0_off3_eq i 2).trans (off_eq i _ _ _ _ rfl rfl))) (ldw_eq _ _ _ _ _ _ _ _ rfl rfl)
    (lds_eq _ _ _ _ _ _ _ ((k0_off4_eq i 2).trans (off_eq i _ _ _ _ rfl rfl))) (ldw_eq _ _ _ _ _ _ _ _ rfl rfl)
    (lds_eq _ _ _ _ _ _ _ ((k0_off3_eq i 3).trans (off_eq i _ _ _ _ rfl rfl))) (ldw_eq _ _ _ _ _ _ _ _ rfl rfl)
    (lds_eq _ _ _ _ _ _ _ ((k0_off4_eq i 3).trans (off_eq i _ _ _ _ rfl rfl))) (ldw_eq _ _ _ _ _ _ _ _ rfl rfl)
    (ldx_eq _ _ _ _ _ _ rfl)
theorem accL_eq3 : accL3 i arg2 harg2 arg3 harg3 arg7 harg7 xd x1 x2 = accY xd x1 x2 (i 0) 3 (by omega) :=
  stepAt_of xd x1 x2 (i 0) ⟨2, by omega⟩ (accL_eq2 i arg2 harg2 arg3 harg3 arg7 harg7 xd x1 x2)
    (lds_eq _ _ _ _ _ _ _ ((k0_off5_eq i 0).trans (off_eq i _ _ _ _ rfl rfl))) (ldw_eq _ _ _ _ _ _ _ _ rfl rfl)
    (lds_eq _ _ _ _ _ _ _ ((k0_off6_eq i 0).trans (off_eq i _ _ _ _ rfl rfl))) (ldw_eq _ _ _ _ _ _ _ _ rfl rfl)
    (lds_eq _ _ _ _ _ _ _ ((k0_off5_eq i 1).trans (off_eq i _ _ _ _ rfl rfl))) (ldw_eq _ _ _ _ _ _ _ _ rfl rfl)
    (lds_eq _ _ _ _ _ _ _ ((k0_off6_eq i 1).trans (off_eq i _ _ _ _ rfl rfl))) (ldw_eq _ _ _ _ _ _ _ _ rfl rfl)
    (lds_eq _ _ _ _ _ _ _ ((k0_off5_eq i 2).trans (off_eq i _ _ _ _ rfl rfl))) (ldw_eq _ _ _ _ _ _ _ _ rfl rfl)
    (lds_eq _ _ _ _ _ _ _ ((k0_off6_eq i 2).trans (off_eq i _ _ _ _ rfl rfl))) (ldw_eq _ _ _ _ _ _ _ _ rfl rfl)
    (lds_eq _ _ _ _ _ _ _ ((k0_off5_eq i 3).trans (off_eq i _ _ _ _ rfl rfl))) (ldw_eq _ _ _ _ _ _ _ _ rfl rfl)
    (lds_eq _ _ _ _ _ _ _ ((k0_off6_eq i 3).trans (off_eq i _ _ _ _ rfl rfl))) (ldw_eq _ _ _ _ _ _ _ _ rfl rfl)
    (ldx_eq _ _ _ _ _ _ rfl)
theorem accL_eq4 : accL4 i arg2 harg2 arg3 harg3 arg7 harg7 xd x1 x2 = accY xd x1 x2 (i 0) 4 (by omega) :=
  stepAt_of xd x1 x2 (i 0) ⟨3, by omega⟩ (accL_eq3 i arg2 harg2 arg3 harg3 arg7 harg7 xd x1 x2)
    (lds_eq _ _ _ _ _ _ _ ((k0_off7_eq i 0).trans (off_eq i _ _ _ _ rfl rfl))) (ldw_eq _ _ _ _ _ _ _ _ rfl rfl)
    (lds_eq _ _ _ _ _ _ _ ((k0_off8_eq i 0).trans (off_eq i _ _ _ _ rfl rfl))) (ldw_eq _ _ _ _ _ _ _ _ rfl rfl)
    (lds_eq _ _ _ _ _ _ _ ((k0_off7_eq i 1).trans (off_eq i _ _ _ _ rfl rfl))) (ldw_eq _ _ _ _ _ _ _ _ rfl rfl)
    (lds_eq _ _ _ _ _ _ _ ((k0_off8_eq i 1).trans (off_eq i _ _ _ _ rfl rfl))) (ldw_eq _ _ _ _ _ _ _ _ rfl rfl)
    (lds_eq _ _ _ _ _ _ _ ((k0_off7_eq i 2).trans (off_eq i _ _ _ _ rfl rfl))) (ldw_eq _ _ _ _ _ _ _ _ rfl rfl)
    (lds_eq _ _ _ _ _ _ _ ((k0_off8_eq i 2).trans (off_eq i _ _ _ _ rfl rfl))) (ldw_eq _ _ _ _ _ _ _ _ rfl rfl)
    (lds_eq _ _ _ _ _ _ _ ((k0_off7_eq i 3).trans (off_eq i _ _ _ _ rfl rfl))) (ldw_eq _ _ _ _ _ _ _ _ rfl rfl)
    (lds_eq _ _ _ _ _ _ _ ((k0_off8_eq i 3).trans (off_eq i _ _ _ _ rfl rfl))) (ldw_eq _ _ _ _ _ _ _ _ rfl rfl)
    (ldx_eq _ _ _ _ _ _ rfl)
theorem accL_eq5 : accL5 i arg2 harg2 arg3 harg3 arg7 harg7 xd x1 x2 = accY xd x1 x2 (i 0) 5 (by omega) :=
  stepAt_of xd x1 x2 (i 0) ⟨4, by omega⟩ (accL_eq4 i arg2 harg2 arg3 harg3 arg7 harg7 xd x1 x2)
    (lds_eq _ _ _ _ _ _ _ ((k0_off9_eq i 0).trans (off_eq i _ _ _ _ rfl rfl))) (ldw_eq _ _ _ _ _ _ _ _ rfl rfl)
    (lds_eq _ _ _ _ _ _ _ ((k0_off10_eq i 0).trans (off_eq i _ _ _ _ rfl rfl))) (ldw_eq _ _ _ _ _ _ _ _ rfl rfl)
    (lds_eq _ _ _ _ _ _ _ ((k0_off9_eq i 1).trans (off_eq i _ _ _ _ rfl rfl))) (ldw_eq _ _ _ _ _ _ _ _ rfl rfl)
    (lds_eq _ _ _ _ _ _ _ ((k0_off10_eq i 1).trans (off_eq i _ _ _ _ rfl rfl))) (ldw_eq _ _ _ _ _ _ _ _ rfl rfl)
    (lds_eq _ _ _ _ _ _ _ ((k0_off9_eq i 2).trans (off_eq i _ _ _ _ rfl rfl))) (ldw_eq _ _ _ _ _ _ _ _ rfl rfl)
    (lds_eq _ _ _ _ _ _ _ ((k0_off10_eq i 2).trans (off_eq i _ _ _ _ rfl rfl))) (ldw_eq _ _ _ _ _ _ _ _ rfl rfl)
    (lds_eq _ _ _ _ _ _ _ ((k0_off9_eq i 3).trans (off_eq i _ _ _ _ rfl rfl))) (ldw_eq _ _ _ _ _ _ _ _ rfl rfl)
    (lds_eq _ _ _ _ _ _ _ ((k0_off10_eq i 3).trans (off_eq i _ _ _ _ rfl rfl))) (ldw_eq _ _ _ _ _ _ _ _ rfl rfl)
    (ldx_eq _ _ _ _ _ _ rfl)
theorem accL_eq6 : accL6 i arg2 harg2 arg3 harg3 arg7 harg7 xd x1 x2 = accY xd x1 x2 (i 0) 6 (by omega) :=
  stepAt_of xd x1 x2 (i 0) ⟨5, by omega⟩ (accL_eq5 i arg2 harg2 arg3 harg3 arg7 harg7 xd x1 x2)
    (lds_eq _ _ _ _ _ _ _ ((k0_off11_eq i 0).trans (off_eq i _ _ _ _ rfl rfl))) (ldw_eq _ _ _ _ _ _ _ _ rfl rfl)
    (lds_eq _ _ _ _ _ _ _ ((k0_off12_eq i 0).trans (off_eq i _ _ _ _ rfl rfl))) (ldw_eq _ _ _ _ _ _ _ _ rfl rfl)
    (lds_eq _ _ _ _ _ _ _ ((k0_off11_eq i 1).trans (off_eq i _ _ _ _ rfl rfl))) (ldw_eq _ _ _ _ _ _ _ _ rfl rfl)
    (lds_eq _ _ _ _ _ _ _ ((k0_off12_eq i 1).trans (off_eq i _ _ _ _ rfl rfl))) (ldw_eq _ _ _ _ _ _ _ _ rfl rfl)
    (lds_eq _ _ _ _ _ _ _ ((k0_off11_eq i 2).trans (off_eq i _ _ _ _ rfl rfl))) (ldw_eq _ _ _ _ _ _ _ _ rfl rfl)
    (lds_eq _ _ _ _ _ _ _ ((k0_off12_eq i 2).trans (off_eq i _ _ _ _ rfl rfl))) (ldw_eq _ _ _ _ _ _ _ _ rfl rfl)
    (lds_eq _ _ _ _ _ _ _ ((k0_off11_eq i 3).trans (off_eq i _ _ _ _ rfl rfl))) (ldw_eq _ _ _ _ _ _ _ _ rfl rfl)
    (lds_eq _ _ _ _ _ _ _ ((k0_off12_eq i 3).trans (off_eq i _ _ _ _ rfl rfl))) (ldw_eq _ _ _ _ _ _ _ _ rfl rfl)
    (ldx_eq _ _ _ _ _ _ rfl)
theorem accL_eq7 : accL7 i arg2 harg2 arg3 harg3 arg7 harg7 xd x1 x2 = accY xd x1 x2 (i 0) 7 (by omega) :=
  stepAt_of xd x1 x2 (i 0) ⟨6, by omega⟩ (accL_eq6 i arg2 harg2 arg3 harg3 arg7 harg7 xd x1 x2)
    (lds_eq _ _ _ _ _ _ _ ((k0_off13_eq i 0).trans (off_eq i _ _ _ _ rfl rfl))) (ldw_eq _ _ _ _ _ _ _ _ rfl rfl)
    (lds_eq _ _ _ _ _ _ _ ((k0_off14_eq i 0).trans (off_eq i _ _ _ _ rfl rfl))) (ldw_eq _ _ _ _ _ _ _ _ rfl rfl)
    (lds_eq _ _ _ _ _ _ _ ((k0_off13_eq i 1).trans (off_eq i _ _ _ _ rfl rfl))) (ldw_eq _ _ _ _ _ _ _ _ rfl rfl)
    (lds_eq _ _ _ _ _ _ _ ((k0_off14_eq i 1).trans (off_eq i _ _ _ _ rfl rfl))) (ldw_eq _ _ _ _ _ _ _ _ rfl rfl)
    (lds_eq _ _ _ _ _ _ _ ((k0_off13_eq i 2).trans (off_eq i _ _ _ _ rfl rfl))) (ldw_eq _ _ _ _ _ _ _ _ rfl rfl)
    (lds_eq _ _ _ _ _ _ _ ((k0_off14_eq i 2).trans (off_eq i _ _ _ _ rfl rfl))) (ldw_eq _ _ _ _ _ _ _ _ rfl rfl)
    (lds_eq _ _ _ _ _ _ _ ((k0_off13_eq i 3).trans (off_eq i _ _ _ _ rfl rfl))) (ldw_eq _ _ _ _ _ _ _ _ rfl rfl)
    (lds_eq _ _ _ _ _ _ _ ((k0_off14_eq i 3).trans (off_eq i _ _ _ _ rfl rfl))) (ldw_eq _ _ _ _ _ _ _ _ rfl rfl)
    (ldx_eq _ _ _ _ _ _ rfl)
theorem accL_eq8 : accL8 i arg2 harg2 arg3 harg3 arg7 harg7 xd x1 x2 = accY xd x1 x2 (i 0) 8 (by omega) :=
  stepAt_of xd x1 x2 (i 0) ⟨7, by omega⟩ (accL_eq7 i arg2 harg2 arg3 harg3 arg7 harg7 xd x1 x2)
    (lds_eq _ _ _ _ _ _ _ ((k0_off15_eq i 0).trans (off_eq i _ _ _ _ rfl rfl))) (ldw_eq _ _ _ _ _ _ _ _ rfl rfl)
    (lds_eq _ _ _ _ _ _ _ ((k0_off16_eq i 0).trans (off_eq i _ _ _ _ rfl rfl))) (ldw_eq _ _ _ _ _ _ _ _ rfl rfl)
    (lds_eq _ _ _ _ _ _ _ ((k0_off15_eq i 1).trans (off_eq i _ _ _ _ rfl rfl))) (ldw_eq _ _ _ _ _ _ _ _ rfl rfl)
    (lds_eq _ _ _ _ _ _ _ ((k0_off16_eq i 1).trans (off_eq i _ _ _ _ rfl rfl))) (ldw_eq _ _ _ _ _ _ _ _ rfl rfl)
    (lds_eq _ _ _ _ _ _ _ ((k0_off15_eq i 2).trans (off_eq i _ _ _ _ rfl rfl))) (ldw_eq _ _ _ _ _ _ _ _ rfl rfl)
    (lds_eq _ _ _ _ _ _ _ ((k0_off16_eq i 2).trans (off_eq i _ _ _ _ rfl rfl))) (ldw_eq _ _ _ _ _ _ _ _ rfl rfl)
    (lds_eq _ _ _ _ _ _ _ ((k0_off15_eq i 3).trans (off_eq i _ _ _ _ rfl rfl))) (ldw_eq _ _ _ _ _ _ _ _ rfl rfl)
    (lds_eq _ _ _ _ _ _ _ ((k0_off16_eq i 3).trans (off_eq i _ _ _ _ rfl rfl))) (ldw_eq _ _ _ _ _ _ _ _ rfl rfl)
    (ldx_eq _ _ _ _ _ _ rfl)
theorem accL_eq9 : accL9 i arg2 harg2 arg3 harg3 arg7 harg7 xd x1 x2 = accY xd x1 x2 (i 0) 9 (by omega) :=
  stepAt_of xd x1 x2 (i 0) ⟨8, by omega⟩ (accL_eq8 i arg2 harg2 arg3 harg3 arg7 harg7 xd x1 x2)
    (lds_eq _ _ _ _ _ _ _ ((k0_off17_eq i 0).trans (off_eq i _ _ _ _ rfl rfl))) (ldw_eq _ _ _ _ _ _ _ _ rfl rfl)
    (lds_eq _ _ _ _ _ _ _ ((k0_off18_eq i 0).trans (off_eq i _ _ _ _ rfl rfl))) (ldw_eq _ _ _ _ _ _ _ _ rfl rfl)
    (lds_eq _ _ _ _ _ _ _ ((k0_off17_eq i 1).trans (off_eq i _ _ _ _ rfl rfl))) (ldw_eq _ _ _ _ _ _ _ _ rfl rfl)
    (lds_eq _ _ _ _ _ _ _ ((k0_off18_eq i 1).trans (off_eq i _ _ _ _ rfl rfl))) (ldw_eq _ _ _ _ _ _ _ _ rfl rfl)
    (lds_eq _ _ _ _ _ _ _ ((k0_off17_eq i 2).trans (off_eq i _ _ _ _ rfl rfl))) (ldw_eq _ _ _ _ _ _ _ _ rfl rfl)
    (lds_eq _ _ _ _ _ _ _ ((k0_off18_eq i 2).trans (off_eq i _ _ _ _ rfl rfl))) (ldw_eq _ _ _ _ _ _ _ _ rfl rfl)
    (lds_eq _ _ _ _ _ _ _ ((k0_off17_eq i 3).trans (off_eq i _ _ _ _ rfl rfl))) (ldw_eq _ _ _ _ _ _ _ _ rfl rfl)
    (lds_eq _ _ _ _ _ _ _ ((k0_off18_eq i 3).trans (off_eq i _ _ _ _ rfl rfl))) (ldw_eq _ _ _ _ _ _ _ _ rfl rfl)
    (ldx_eq _ _ _ _ _ _ rfl)
theorem accL_eq10 : accL10 i arg2 harg2 arg3 harg3 arg7 harg7 xd x1 x2 = accY xd x1 x2 (i 0) 10 (by omega) :=
  stepAt_of xd x1 x2 (i 0) ⟨9, by omega⟩ (accL_eq9 i arg2 harg2 arg3 harg3 arg7 harg7 xd x1 x2)
    (lds_eq _ _ _ _ _ _ _ ((k0_off19_eq i 0).trans (off_eq i _ _ _ _ rfl rfl))) (ldw_eq _ _ _ _ _ _ _ _ rfl rfl)
    (lds_eq _ _ _ _ _ _ _ ((k0_off20_eq i 0).trans (off_eq i _ _ _ _ rfl rfl))) (ldw_eq _ _ _ _ _ _ _ _ rfl rfl)
    (lds_eq _ _ _ _ _ _ _ ((k0_off19_eq i 1).trans (off_eq i _ _ _ _ rfl rfl))) (ldw_eq _ _ _ _ _ _ _ _ rfl rfl)
    (lds_eq _ _ _ _ _ _ _ ((k0_off20_eq i 1).trans (off_eq i _ _ _ _ rfl rfl))) (ldw_eq _ _ _ _ _ _ _ _ rfl rfl)
    (lds_eq _ _ _ _ _ _ _ ((k0_off19_eq i 2).trans (off_eq i _ _ _ _ rfl rfl))) (ldw_eq _ _ _ _ _ _ _ _ rfl rfl)
    (lds_eq _ _ _ _ _ _ _ ((k0_off20_eq i 2).trans (off_eq i _ _ _ _ rfl rfl))) (ldw_eq _ _ _ _ _ _ _ _ rfl rfl)
    (lds_eq _ _ _ _ _ _ _ ((k0_off19_eq i 3).trans (off_eq i _ _ _ _ rfl rfl))) (ldw_eq _ _ _ _ _ _ _ _ rfl rfl)
    (lds_eq _ _ _ _ _ _ _ ((k0_off20_eq i 3).trans (off_eq i _ _ _ _ rfl rfl))) (ldw_eq _ _ _ _ _ _ _ _ rfl rfl)
    (ldx_eq _ _ _ _ _ _ rfl)
theorem accL_eq11 : accL11 i arg2 harg2 arg3 harg3 arg7 harg7 xd x1 x2 = accY xd x1 x2 (i 0) 11 (by omega) :=
  stepAt_of xd x1 x2 (i 0) ⟨10, by omega⟩ (accL_eq10 i arg2 harg2 arg3 harg3 arg7 harg7 xd x1 x2)
    (lds_eq _ _ _ _ _ _ _ ((k0_off21_eq i 0).trans (off_eq i _ _ _ _ rfl rfl))) (ldw_eq _ _ _ _ _ _ _ _ rfl rfl)
    (lds_eq _ _ _ _ _ _ _ ((k0_off22_eq i 0).trans (off_eq i _ _ _ _ rfl rfl))) (ldw_eq _ _ _ _ _ _ _ _ rfl rfl)
    (lds_eq _ _ _ _ _ _ _ ((k0_off21_eq i 1).trans (off_eq i _ _ _ _ rfl rfl))) (ldw_eq _ _ _ _ _ _ _ _ rfl rfl)
    (lds_eq _ _ _ _ _ _ _ ((k0_off22_eq i 1).trans (off_eq i _ _ _ _ rfl rfl))) (ldw_eq _ _ _ _ _ _ _ _ rfl rfl)
    (lds_eq _ _ _ _ _ _ _ ((k0_off21_eq i 2).trans (off_eq i _ _ _ _ rfl rfl))) (ldw_eq _ _ _ _ _ _ _ _ rfl rfl)
    (lds_eq _ _ _ _ _ _ _ ((k0_off22_eq i 2).trans (off_eq i _ _ _ _ rfl rfl))) (ldw_eq _ _ _ _ _ _ _ _ rfl rfl)
    (lds_eq _ _ _ _ _ _ _ ((k0_off21_eq i 3).trans (off_eq i _ _ _ _ rfl rfl))) (ldw_eq _ _ _ _ _ _ _ _ rfl rfl)
    (lds_eq _ _ _ _ _ _ _ ((k0_off22_eq i 3).trans (off_eq i _ _ _ _ rfl rfl))) (ldw_eq _ _ _ _ _ _ _ _ rfl rfl)
    (ldx_eq _ _ _ _ _ _ rfl)
theorem accL_eq12 : accL12 i arg2 harg2 arg3 harg3 arg7 harg7 xd x1 x2 = accY xd x1 x2 (i 0) 12 (by omega) :=
  stepAt_of xd x1 x2 (i 0) ⟨11, by omega⟩ (accL_eq11 i arg2 harg2 arg3 harg3 arg7 harg7 xd x1 x2)
    (lds_eq _ _ _ _ _ _ _ ((k0_off23_eq i 0).trans (off_eq i _ _ _ _ rfl rfl))) (ldw_eq _ _ _ _ _ _ _ _ rfl rfl)
    (lds_eq _ _ _ _ _ _ _ ((k0_off24_eq i 0).trans (off_eq i _ _ _ _ rfl rfl))) (ldw_eq _ _ _ _ _ _ _ _ rfl rfl)
    (lds_eq _ _ _ _ _ _ _ ((k0_off23_eq i 1).trans (off_eq i _ _ _ _ rfl rfl))) (ldw_eq _ _ _ _ _ _ _ _ rfl rfl)
    (lds_eq _ _ _ _ _ _ _ ((k0_off24_eq i 1).trans (off_eq i _ _ _ _ rfl rfl))) (ldw_eq _ _ _ _ _ _ _ _ rfl rfl)
    (lds_eq _ _ _ _ _ _ _ ((k0_off23_eq i 2).trans (off_eq i _ _ _ _ rfl rfl))) (ldw_eq _ _ _ _ _ _ _ _ rfl rfl)
    (lds_eq _ _ _ _ _ _ _ ((k0_off24_eq i 2).trans (off_eq i _ _ _ _ rfl rfl))) (ldw_eq _ _ _ _ _ _ _ _ rfl rfl)
    (lds_eq _ _ _ _ _ _ _ ((k0_off23_eq i 3).trans (off_eq i _ _ _ _ rfl rfl))) (ldw_eq _ _ _ _ _ _ _ _ rfl rfl)
    (lds_eq _ _ _ _ _ _ _ ((k0_off24_eq i 3).trans (off_eq i _ _ _ _ rfl rfl))) (ldw_eq _ _ _ _ _ _ _ _ rfl rfl)
    (ldx_eq _ _ _ _ _ _ rfl)
theorem accL_eq13 : accL13 i arg2 harg2 arg3 harg3 arg7 harg7 xd x1 x2 = accY xd x1 x2 (i 0) 13 (by omega) :=
  stepAt_of xd x1 x2 (i 0) ⟨12, by omega⟩ (accL_eq12 i arg2 harg2 arg3 harg3 arg7 harg7 xd x1 x2)
    (lds_eq _ _ _ _ _ _ _ ((k0_off25_eq i 0).trans (off_eq i _ _ _ _ rfl rfl))) (ldw_eq _ _ _ _ _ _ _ _ rfl rfl)
    (lds_eq _ _ _ _ _ _ _ ((k0_off26_eq i 0).trans (off_eq i _ _ _ _ rfl rfl))) (ldw_eq _ _ _ _ _ _ _ _ rfl rfl)
    (lds_eq _ _ _ _ _ _ _ ((k0_off25_eq i 1).trans (off_eq i _ _ _ _ rfl rfl))) (ldw_eq _ _ _ _ _ _ _ _ rfl rfl)
    (lds_eq _ _ _ _ _ _ _ ((k0_off26_eq i 1).trans (off_eq i _ _ _ _ rfl rfl))) (ldw_eq _ _ _ _ _ _ _ _ rfl rfl)
    (lds_eq _ _ _ _ _ _ _ ((k0_off25_eq i 2).trans (off_eq i _ _ _ _ rfl rfl))) (ldw_eq _ _ _ _ _ _ _ _ rfl rfl)
    (lds_eq _ _ _ _ _ _ _ ((k0_off26_eq i 2).trans (off_eq i _ _ _ _ rfl rfl))) (ldw_eq _ _ _ _ _ _ _ _ rfl rfl)
    (lds_eq _ _ _ _ _ _ _ ((k0_off25_eq i 3).trans (off_eq i _ _ _ _ rfl rfl))) (ldw_eq _ _ _ _ _ _ _ _ rfl rfl)
    (lds_eq _ _ _ _ _ _ _ ((k0_off26_eq i 3).trans (off_eq i _ _ _ _ rfl rfl))) (ldw_eq _ _ _ _ _ _ _ _ rfl rfl)
    (ldx_eq _ _ _ _ _ _ rfl)
theorem accL_eq14 : accL14 i arg2 harg2 arg3 harg3 arg7 harg7 xd x1 x2 = accY xd x1 x2 (i 0) 14 (by omega) :=
  stepAt_of xd x1 x2 (i 0) ⟨13, by omega⟩ (accL_eq13 i arg2 harg2 arg3 harg3 arg7 harg7 xd x1 x2)
    (lds_eq _ _ _ _ _ _ _ ((k0_off27_eq i 0).trans (off_eq i _ _ _ _ rfl rfl))) (ldw_eq _ _ _ _ _ _ _ _ rfl rfl)
    (lds_eq _ _ _ _ _ _ _ ((k0_off28_eq i 0).trans (off_eq i _ _ _ _ rfl rfl))) (ldw_eq _ _ _ _ _ _ _ _ rfl rfl)
    (lds_eq _ _ _ _ _ _ _ ((k0_off27_eq i 1).trans (off_eq i _ _ _ _ rfl rfl))) (ldw_eq _ _ _ _ _ _ _ _ rfl rfl)
    (lds_eq _ _ _ _ _ _ _ ((k0_off28_eq i 1).trans (off_eq i _ _ _ _ rfl rfl))) (ldw_eq _ _ _ _ _ _ _ _ rfl rfl)
    (lds_eq _ _ _ _ _ _ _ ((k0_off27_eq i 2).trans (off_eq i _ _ _ _ rfl rfl))) (ldw_eq _ _ _ _ _ _ _ _ rfl rfl)
    (lds_eq _ _ _ _ _ _ _ ((k0_off28_eq i 2).trans (off_eq i _ _ _ _ rfl rfl))) (ldw_eq _ _ _ _ _ _ _ _ rfl rfl)
    (lds_eq _ _ _ _ _ _ _ ((k0_off27_eq i 3).trans (off_eq i _ _ _ _ rfl rfl))) (ldw_eq _ _ _ _ _ _ _ _ rfl rfl)
    (lds_eq _ _ _ _ _ _ _ ((k0_off28_eq i 3).trans (off_eq i _ _ _ _ rfl rfl))) (ldw_eq _ _ _ _ _ _ _ _ rfl rfl)
    (ldx_eq _ _ _ _ _ _ rfl)
theorem accL_eq15 : accL15 i arg2 harg2 arg3 harg3 arg7 harg7 xd x1 x2 = accY xd x1 x2 (i 0) 15 (by omega) :=
  stepAt_of xd x1 x2 (i 0) ⟨14, by omega⟩ (accL_eq14 i arg2 harg2 arg3 harg3 arg7 harg7 xd x1 x2)
    (lds_eq _ _ _ _ _ _ _ ((k0_off29_eq i 0).trans (off_eq i _ _ _ _ rfl rfl))) (ldw_eq _ _ _ _ _ _ _ _ rfl rfl)
    (lds_eq _ _ _ _ _ _ _ ((k0_off30_eq i 0).trans (off_eq i _ _ _ _ rfl rfl))) (ldw_eq _ _ _ _ _ _ _ _ rfl rfl)
    (lds_eq _ _ _ _ _ _ _ ((k0_off29_eq i 1).trans (off_eq i _ _ _ _ rfl rfl))) (ldw_eq _ _ _ _ _ _ _ _ rfl rfl)
    (lds_eq _ _ _ _ _ _ _ ((k0_off30_eq i 1).trans (off_eq i _ _ _ _ rfl rfl))) (ldw_eq _ _ _ _ _ _ _ _ rfl rfl)
    (lds_eq _ _ _ _ _ _ _ ((k0_off29_eq i 2).trans (off_eq i _ _ _ _ rfl rfl))) (ldw_eq _ _ _ _ _ _ _ _ rfl rfl)
    (lds_eq _ _ _ _ _ _ _ ((k0_off30_eq i 2).trans (off_eq i _ _ _ _ rfl rfl))) (ldw_eq _ _ _ _ _ _ _ _ rfl rfl)
    (lds_eq _ _ _ _ _ _ _ ((k0_off29_eq i 3).trans (off_eq i _ _ _ _ rfl rfl))) (ldw_eq _ _ _ _ _ _ _ _ rfl rfl)
    (lds_eq _ _ _ _ _ _ _ ((k0_off30_eq i 3).trans (off_eq i _ _ _ _ rfl rfl))) (ldw_eq _ _ _ _ _ _ _ _ rfl rfl)
    (ldx_eq _ _ _ _ _ _ rfl)
theorem accL_eq16 : accL16 i arg2 harg2 arg3 harg3 arg7 harg7 xd x1 x2 = accY xd x1 x2 (i 0) 16 (by omega) :=
  stepAt_of xd x1 x2 (i 0) ⟨15, by omega⟩ (accL_eq15 i arg2 harg2 arg3 harg3 arg7 harg7 xd x1 x2)
    (lds_eq _ _ _ _ _ _ _ ((k0_off31_eq i 0).trans (off_eq i _ _ _ _ rfl rfl))) (ldw_eq _ _ _ _ _ _ _ _ rfl rfl)
    (lds_eq _ _ _ _ _ _ _ ((k0_off32_eq i 0).trans (off_eq i _ _ _ _ rfl rfl))) (ldw_eq _ _ _ _ _ _ _ _ rfl rfl)
    (lds_eq _ _ _ _ _ _ _ ((k0_off31_eq i 1).trans (off_eq i _ _ _ _ rfl rfl))) (ldw_eq _ _ _ _ _ _ _ _ rfl rfl)
    (lds_eq _ _ _ _ _ _ _ ((k0_off32_eq i 1).trans (off_eq i _ _ _ _ rfl rfl))) (ldw_eq _ _ _ _ _ _ _ _ rfl rfl)
    (lds_eq _ _ _ _ _ _ _ ((k0_off31_eq i 2).trans (off_eq i _ _ _ _ rfl rfl))) (ldw_eq _ _ _ _ _ _ _ _ rfl rfl)
    (lds_eq _ _ _ _ _ _ _ ((k0_off32_eq i 2).trans (off_eq i _ _ _ _ rfl rfl))) (ldw_eq _ _ _ _ _ _ _ _ rfl rfl)
    (lds_eq _ _ _ _ _ _ _ ((k0_off31_eq i 3).trans (off_eq i _ _ _ _ rfl rfl))) (ldw_eq _ _ _ _ _ _ _ _ rfl rfl)
    (lds_eq _ _ _ _ _ _ _ ((k0_off32_eq i 3).trans (off_eq i _ _ _ _ rfl rfl))) (ldw_eq _ _ _ _ _ _ _ _ rfl rfl)
    (ldx_eq _ _ _ _ _ _ rfl)
theorem accL_eq17 : accL17 i arg2 harg2 arg3 harg3 arg7 harg7 xd x1 x2 = accY xd x1 x2 (i 0) 17 (by omega) :=
  stepAt_of xd x1 x2 (i 0) ⟨16, by omega⟩ (accL_eq16 i arg2 harg2 arg3 harg3 arg7 harg7 xd x1 x2)
    (lds_eq _ _ _ _ _ _ _ ((k0_off33_eq i 0).trans (off_eq i _ _ _ _ rfl rfl))) (ldw_eq _ _ _ _ _ _ _ _ rfl rfl)
    (lds_eq _ _ _ _ _ _ _ ((k0_off34_eq i 0).trans (off_eq i _ _ _ _ rfl rfl))) (ldw_eq _ _ _ _ _ _ _ _ rfl rfl)
    (lds_eq _ _ _ _ _ _ _ ((k0_off33_eq i 1).trans (off_eq i _ _ _ _ rfl rfl))) (ldw_eq _ _ _ _ _ _ _ _ rfl rfl)
    (lds_eq _ _ _ _ _ _ _ ((k0_off34_eq i 1).trans (off_eq i _ _ _ _ rfl rfl))) (ldw_eq _ _ _ _ _ _ _ _ rfl rfl)
    (lds_eq _ _ _ _ _ _ _ ((k0_off33_eq i 2).trans (off_eq i _ _ _ _ rfl rfl))) (ldw_eq _ _ _ _ _ _ _ _ rfl rfl)
    (lds_eq _ _ _ _ _ _ _ ((k0_off34_eq i 2).trans (off_eq i _ _ _ _ rfl rfl))) (ldw_eq _ _ _ _ _ _ _ _ rfl rfl)
    (lds_eq _ _ _ _ _ _ _ ((k0_off33_eq i 3).trans (off_eq i _ _ _ _ rfl rfl))) (ldw_eq _ _ _ _ _ _ _ _ rfl rfl)
    (lds_eq _ _ _ _ _ _ _ ((k0_off34_eq i 3).trans (off_eq i _ _ _ _ rfl rfl))) (ldw_eq _ _ _ _ _ _ _ _ rfl rfl)
    (ldx_eq _ _ _ _ _ _ rfl)
theorem accL_eq18 : accL18 i arg2 harg2 arg3 harg3 arg7 harg7 xd x1 x2 = accY xd x1 x2 (i 0) 18 (by omega) :=
  stepAt_of xd x1 x2 (i 0) ⟨17, by omega⟩ (accL_eq17 i arg2 harg2 arg3 harg3 arg7 harg7 xd x1 x2)
    (lds_eq _ _ _ _ _ _ _ ((k0_off35_eq i 0).trans (off_eq i _ _ _ _ rfl rfl))) (ldw_eq _ _ _ _ _ _ _ _ rfl rfl)
    (lds_eq _ _ _ _ _ _ _ ((k0_off36_eq i 0).trans (off_eq i _ _ _ _ rfl rfl))) (ldw_eq _ _ _ _ _ _ _ _ rfl rfl)
    (lds_eq _ _ _ _ _ _ _ ((k0_off35_eq i 1).trans (off_eq i _ _ _ _ rfl rfl))) (ldw_eq _ _ _ _ _ _ _ _ rfl rfl)
    (lds_eq _ _ _ _ _ _ _ ((k0_off36_eq i 1).trans (off_eq i _ _ _ _ rfl rfl))) (ldw_eq _ _ _ _ _ _ _ _ rfl rfl)
    (lds_eq _ _ _ _ _ _ _ ((k0_off35_eq i 2).trans (off_eq i _ _ _ _ rfl rfl))) (ldw_eq _ _ _ _ _ _ _ _ rfl rfl)
    (lds_eq _ _ _ _ _ _ _ ((k0_off36_eq i 2).trans (off_eq i _ _ _ _ rfl rfl))) (ldw_eq _ _ _ _ _ _ _ _ rfl rfl)
    (lds_eq _ _ _ _ _ _ _ ((k0_off35_eq i 3).trans (off_eq i _ _ _ _ rfl rfl))) (ldw_eq _ _ _ _ _ _ _ _ rfl rfl)
    (lds_eq _ _ _ _ _ _ _ ((k0_off36_eq i 3).trans (off_eq i _ _ _ _ rfl rfl))) (ldw_eq _ _ _ _ _ _ _ _ rfl rfl)
    (ldx_eq _ _ _ _ _ _ rfl)
theorem accL_eq19 : accL19 i arg2 harg2 arg3 harg3 arg7 harg7 xd x1 x2 = accY xd x1 x2 (i 0) 19 (by omega) :=
  stepAt_of xd x1 x2 (i 0) ⟨18, by omega⟩ (accL_eq18 i arg2 harg2 arg3 harg3 arg7 harg7 xd x1 x2)
    (lds_eq _ _ _ _ _ _ _ ((k0_off37_eq i 0).trans (off_eq i _ _ _ _ rfl rfl))) (ldw_eq _ _ _ _ _ _ _ _ rfl rfl)
    (lds_eq _ _ _ _ _ _ _ ((k0_off38_eq i 0).trans (off_eq i _ _ _ _ rfl rfl))) (ldw_eq _ _ _ _ _ _ _ _ rfl rfl)
    (lds_eq _ _ _ _ _ _ _ ((k0_off37_eq i 1).trans (off_eq i _ _ _ _ rfl rfl))) (ldw_eq _ _ _ _ _ _ _ _ rfl rfl)
    (lds_eq _ _ _ _ _ _ _ ((k0_off38_eq i 1).trans (off_eq i _ _ _ _ rfl rfl))) (ldw_eq _ _ _ _ _ _ _ _ rfl rfl)
    (lds_eq _ _ _ _ _ _ _ ((k0_off37_eq i 2).trans (off_eq i _ _ _ _ rfl rfl))) (ldw_eq _ _ _ _ _ _ _ _ rfl rfl)
    (lds_eq _ _ _ _ _ _ _ ((k0_off38_eq i 2).trans (off_eq i _ _ _ _ rfl rfl))) (ldw_eq _ _ _ _ _ _ _ _ rfl rfl)
    (lds_eq _ _ _ _ _ _ _ ((k0_off37_eq i 3).trans (off_eq i _ _ _ _ rfl rfl))) (ldw_eq _ _ _ _ _ _ _ _ rfl rfl)
    (lds_eq _ _ _ _ _ _ _ ((k0_off38_eq i 3).trans (off_eq i _ _ _ _ rfl rfl))) (ldw_eq _ _ _ _ _ _ _ _ rfl rfl)
    (ldx_eq _ _ _ _ _ _ rfl)
theorem accL_eq20 : accL20 i arg2 harg2 arg3 harg3 arg7 harg7 xd x1 x2 = accY xd x1 x2 (i 0) 20 (by omega) :=
  stepAt_of xd x1 x2 (i 0) ⟨19, by omega⟩ (accL_eq19 i arg2 harg2 arg3 harg3 arg7 harg7 xd x1 x2)
    (lds_eq _ _ _ _ _ _ _ ((k0_off39_eq i 0).trans (off_eq i _ _ _ _ rfl rfl))) (ldw_eq _ _ _ _ _ _ _ _ rfl rfl)
    (lds_eq _ _ _ _ _ _ _ ((k0_off40_eq i 0).trans (off_eq i _ _ _ _ rfl rfl))) (ldw_eq _ _ _ _ _ _ _ _ rfl rfl)
    (lds_eq _ _ _ _ _ _ _ ((k0_off39_eq i 1).trans (off_eq i _ _ _ _ rfl rfl))) (ldw_eq _ _ _ _ _ _ _ _ rfl rfl)
    (lds_eq _ _ _ _ _ _ _ ((k0_off40_eq i 1).trans (off_eq i _ _ _ _ rfl rfl))) (ldw_eq _ _ _ _ _ _ _ _ rfl rfl)
    (lds_eq _ _ _ _ _ _ _ ((k0_off39_eq i 2).trans (off_eq i _ _ _ _ rfl rfl))) (ldw_eq _ _ _ _ _ _ _ _ rfl rfl)
    (lds_eq _ _ _ _ _ _ _ ((k0_off40_eq i 2).trans (off_eq i _ _ _ _ rfl rfl))) (ldw_eq _ _ _ _ _ _ _ _ rfl rfl)
    (lds_eq _ _ _ _ _ _ _ ((k0_off39_eq i 3).trans (off_eq i _ _ _ _ rfl rfl))) (ldw_eq _ _ _ _ _ _ _ _ rfl rfl)
    (lds_eq _ _ _ _ _ _ _ ((k0_off40_eq i 3).trans (off_eq i _ _ _ _ rfl rfl))) (ldw_eq _ _ _ _ _ _ _ _ rfl rfl)
    (ldx_eq _ _ _ _ _ _ rfl)
theorem accL_eq21 : accL21 i arg2 harg2 arg3 harg3 arg7 harg7 xd x1 x2 = accY xd x1 x2 (i 0) 21 (by omega) :=
  stepAt_of xd x1 x2 (i 0) ⟨20, by omega⟩ (accL_eq20 i arg2 harg2 arg3 harg3 arg7 harg7 xd x1 x2)
    (lds_eq _ _ _ _ _ _ _ ((k0_off41_eq i 0).trans (off_eq i _ _ _ _ rfl rfl))) (ldw_eq _ _ _ _ _ _ _ _ rfl rfl)
    (lds_eq _ _ _ _ _ _ _ ((k0_off42_eq i 0).trans (off_eq i _ _ _ _ rfl rfl))) (ldw_eq _ _ _ _ _ _ _ _ rfl rfl)
    (lds_eq _ _ _ _ _ _ _ ((k0_off41_eq i 1).trans (off_eq i _ _ _ _ rfl rfl))) (ldw_eq _ _ _ _ _ _ _ _ rfl rfl)
    (lds_eq _ _ _ _ _ _ _ ((k0_off42_eq i 1).trans (off_eq i _ _ _ _ rfl rfl))) (ldw_eq _ _ _ _ _ _ _ _ rfl rfl)
    (lds_eq _ _ _ _ _ _ _ ((k0_off41_eq i 2).trans (off_eq i _ _ _ _ rfl rfl))) (ldw_eq _ _ _ _ _ _ _ _ rfl rfl)
    (lds_eq _ _ _ _ _ _ _ ((k0_off42_eq i 2).trans (off_eq i _ _ _ _ rfl rfl))) (ldw_eq _ _ _ _ _ _ _ _ rfl rfl)
    (lds_eq _ _ _ _ _ _ _ ((k0_off41_eq i 3).trans (off_eq i _ _ _ _ rfl rfl))) (ldw_eq _ _ _ _ _ _ _ _ rfl rfl)
    (lds_eq _ _ _ _ _ _ _ ((k0_off42_eq i 3).trans (off_eq i _ _ _ _ rfl rfl))) (ldw_eq _ _ _ _ _ _ _ _ rfl rfl)
    (ldx_eq _ _ _ _ _ _ rfl)
theorem accL_eq22 : accL22 i arg2 harg2 arg3 harg3 arg7 harg7 xd x1 x2 = accY xd x1 x2 (i 0) 22 (by omega) :=
  stepAt_of xd x1 x2 (i 0) ⟨21, by omega⟩ (accL_eq21 i arg2 harg2 arg3 harg3 arg7 harg7 xd x1 x2)
    (lds_eq _ _ _ _ _ _ _ ((k0_off43_eq i 0).trans (off_eq i _ _ _ _ rfl rfl))) (ldw_eq _ _ _ _ _ _ _ _ rfl rfl)
    (lds_eq _ _ _ _ _ _ _ ((k0_off44_eq i 0).trans (off_eq i _ _ _ _ rfl rfl))) (ldw_eq _ _ _ _ _ _ _ _ rfl rfl)
    (lds_eq _ _ _ _ _ _ _ ((k0_off43_eq i 1).trans (off_eq i _ _ _ _ rfl rfl))) (ldw_eq _ _ _ _ _ _ _ _ rfl rfl)
    (lds_eq _ _ _ _ _ _ _ ((k0_off44_eq i 1).trans (off_eq i _ _ _ _ rfl rfl))) (ldw_eq _ _ _ _ _ _ _ _ rfl rfl)
    (lds_eq _ _ _ _ _ _ _ ((k0_off43_eq i 2).trans (off_eq i _ _ _ _ rfl rfl))) (ldw_eq _ _ _ _ _ _ _ _ rfl rfl)
    (lds_eq _ _ _ _ _ _ _ ((k0_off44_eq i 2).trans (off_eq i _ _ _ _ rfl rfl))) (ldw_eq _ _ _ _ _ _ _ _ rfl rfl)
    (lds_eq _ _ _ _ _ _ _ ((k0_off43_eq i 3).trans (off_eq i _ _ _ _ rfl rfl))) (ldw_eq _ _ _ _ _ _ _ _ rfl rfl)
    (lds_eq _ _ _ _ _ _ _ ((k0_off44_eq i 3).trans (off_eq i _ _ _ _ rfl rfl))) (ldw_eq _ _ _ _ _ _ _ _ rfl rfl)
    (ldx_eq _ _ _ _ _ _ rfl)
theorem accL_eq23 : accL23 i arg2 harg2 arg3 harg3 arg7 harg7 xd x1 x2 = accY xd x1 x2 (i 0) 23 (by omega) :=
  stepAt_of xd x1 x2 (i 0) ⟨22, by omega⟩ (accL_eq22 i arg2 harg2 arg3 harg3 arg7 harg7 xd x1 x2)
    (lds_eq _ _ _ _ _ _ _ ((k0_off45_eq i 0).trans (off_eq i _ _ _ _ rfl rfl))) (ldw_eq _ _ _ _ _ _ _ _ rfl rfl)
    (lds_eq _ _ _ _ _ _ _ ((k0_off46_eq i 0).trans (off_eq i _ _ _ _ rfl rfl))) (ldw_eq _ _ _ _ _ _ _ _ rfl rfl)
    (lds_eq _ _ _ _ _ _ _ ((k0_off45_eq i 1).trans (off_eq i _ _ _ _ rfl rfl))) (ldw_eq _ _ _ _ _ _ _ _ rfl rfl)
    (lds_eq _ _ _ _ _ _ _ ((k0_off46_eq i 1).trans (off_eq i _ _ _ _ rfl rfl))) (ldw_eq _ _ _ _ _ _ _ _ rfl rfl)
    (lds_eq _ _ _ _ _ _ _ ((k0_off45_eq i 2).trans (off_eq i _ _ _ _ rfl rfl))) (ldw_eq _ _ _ _ _ _ _ _ rfl rfl)
    (lds_eq _ _ _ _ _ _ _ ((k0_off46_eq i 2).trans (off_eq i _ _ _ _ rfl rfl))) (ldw_eq _ _ _ _ _ _ _ _ rfl rfl)
    (lds_eq _ _ _ _ _ _ _ ((k0_off45_eq i 3).trans (off_eq i _ _ _ _ rfl rfl))) (ldw_eq _ _ _ _ _ _ _ _ rfl rfl)
    (lds_eq _ _ _ _ _ _ _ ((k0_off46_eq i 3).trans (off_eq i _ _ _ _ rfl rfl))) (ldw_eq _ _ _ _ _ _ _ _ rfl rfl)
    (ldx_eq _ _ _ _ _ _ rfl)
theorem accL_eq24 : accL24 i arg2 harg2 arg3 harg3 arg7 harg7 xd x1 x2 = accY xd x1 x2 (i 0) 24 (by omega) :=
  stepAt_of xd x1 x2 (i 0) ⟨23, by omega⟩ (accL_eq23 i arg2 harg2 arg3 harg3 arg7 harg7 xd x1 x2)
    (lds_eq _ _ _ _ _ _ _ ((k0_off47_eq i 0).trans (off_eq i _ _ _ _ rfl rfl))) (ldw_eq _ _ _ _ _ _ _ _ rfl rfl)
    (lds_eq _ _ _ _ _ _ _ ((k0_off48_eq i 0).trans (off_eq i _ _ _ _ rfl rfl))) (ldw_eq _ _ _ _ _ _ _ _ rfl rfl)
    (lds_eq _ _ _ _ _ _ _ ((k0_off47_eq i 1).trans (off_eq i _ _ _ _ rfl rfl))) (ldw_eq _ _ _ _ _ _ _ _ rfl rfl)
    (lds_eq _ _ _ _ _ _ _ ((k0_off48_eq i 1).trans (off_eq i _ _ _ _ rfl rfl))) (ldw_eq _ _ _ _ _ _ _ _ rfl rfl)
    (lds_eq _ _ _ _ _ _ _ ((k0_off47_eq i 2).trans (off_eq i _ _ _ _ rfl rfl))) (ldw_eq _ _ _ _ _ _ _ _ rfl rfl)
    (lds_eq _ _ _ _ _ _ _ ((k0_off48_eq i 2).trans (off_eq i _ _ _ _ rfl rfl))) (ldw_eq _ _ _ _ _ _ _ _ rfl rfl)
    (lds_eq _ _ _ _ _ _ _ ((k0_off47_eq i 3).trans (off_eq i _ _ _ _ rfl rfl))) (ldw_eq _ _ _ _ _ _ _ _ rfl rfl)
    (lds_eq _ _ _ _ _ _ _ ((k0_off48_eq i 3).trans (off_eq i _ _ _ _ rfl rfl))) (ldw_eq _ _ _ _ _ _ _ _ rfl rfl)
    (ldx_eq _ _ _ _ _ _ rfl)
theorem accL_eq25 : accL25 i arg2 harg2 arg3 harg3 arg7 harg7 xd x1 x2 = accY xd x1 x2 (i 0) 25 (by omega) :=
  stepAt_of xd x1 x2 (i 0) ⟨24, by omega⟩ (accL_eq24 i arg2 harg2 arg3 harg3 arg7 harg7 xd x1 x2)
    (lds_eq _ _ _ _ _ _ _ ((k0_off49_eq i 0).trans (off_eq i _ _ _ _ rfl rfl))) (ldw_eq _ _ _ _ _ _ _ _ rfl rfl)
    (lds_eq _ _ _ _ _ _ _ ((k0_off50_eq i 0).trans (off_eq i _ _ _ _ rfl rfl))) (ldw_eq _ _ _ _ _ _ _ _ rfl rfl)
    (lds_eq _ _ _ _ _ _ _ ((k0_off49_eq i 1).trans (off_eq i _ _ _ _ rfl rfl))) (ldw_eq _ _ _ _ _ _ _ _ rfl rfl)
    (lds_eq _ _ _ _ _ _ _ ((k0_off50_eq i 1).trans (off_eq i _ _ _ _ rfl rfl))) (ldw_eq _ _ _ _ _ _ _ _ rfl rfl)
    (lds_eq _ _ _ _ _ _ _ ((k0_off49_eq i 2).trans (off_eq i _ _ _ _ rfl rfl))) (ldw_eq _ _ _ _ _ _ _ _ rfl rfl)
    (lds_eq _ _ _ _ _ _ _ ((k0_off50_eq i 2).trans (off_eq i _ _ _ _ rfl rfl))) (ldw_eq _ _ _ _ _ _ _ _ rfl rfl)
    (lds_eq _ _ _ _ _ _ _ ((k0_off49_eq i 3).trans (off_eq i _ _ _ _ rfl rfl))) (ldw_eq _ _ _ _ _ _ _ _ rfl rfl)
    (lds_eq _ _ _ _ _ _ _ ((k0_off50_eq i 3).trans (off_eq i _ _ _ _ rfl rfl))) (ldw_eq _ _ _ _ _ _ _ _ rfl rfl)
    (ldx_eq _ _ _ _ _ _ rfl)
theorem accL_eq26 : accL26 i arg2 harg2 arg3 harg3 arg7 harg7 xd x1 x2 = accY xd x1 x2 (i 0) 26 (by omega) :=
  stepAt_of xd x1 x2 (i 0) ⟨25, by omega⟩ (accL_eq25 i arg2 harg2 arg3 harg3 arg7 harg7 xd x1 x2)
    (lds_eq _ _ _ _ _ _ _ ((k0_off51_eq i 0).trans (off_eq i _ _ _ _ rfl rfl))) (ldw_eq _ _ _ _ _ _ _ _ rfl rfl)
    (lds_eq _ _ _ _ _ _ _ ((k0_off52_eq i 0).trans (off_eq i _ _ _ _ rfl rfl))) (ldw_eq _ _ _ _ _ _ _ _ rfl rfl)
    (lds_eq _ _ _ _ _ _ _ ((k0_off51_eq i 1).trans (off_eq i _ _ _ _ rfl rfl))) (ldw_eq _ _ _ _ _ _ _ _ rfl rfl)
    (lds_eq _ _ _ _ _ _ _ ((k0_off52_eq i 1).trans (off_eq i _ _ _ _ rfl rfl))) (ldw_eq _ _ _ _ _ _ _ _ rfl rfl)
    (lds_eq _ _ _ _ _ _ _ ((k0_off51_eq i 2).trans (off_eq i _ _ _ _ rfl rfl))) (ldw_eq _ _ _ _ _ _ _ _ rfl rfl)
    (lds_eq _ _ _ _ _ _ _ ((k0_off52_eq i 2).trans (off_eq i _ _ _ _ rfl rfl))) (ldw_eq _ _ _ _ _ _ _ _ rfl rfl)
    (lds_eq _ _ _ _ _ _ _ ((k0_off51_eq i 3).trans (off_eq i _ _ _ _ rfl rfl))) (ldw_eq _ _ _ _ _ _ _ _ rfl rfl)
    (lds_eq _ _ _ _ _ _ _ ((k0_off52_eq i 3).trans (off_eq i _ _ _ _ rfl rfl))) (ldw_eq _ _ _ _ _ _ _ _ rfl rfl)
    (ldx_eq _ _ _ _ _ _ rfl)

end

end Cert.KernelIdeal.Gen

end
-- ==== Proof.Tail.lean ====
module

public import proofs.«01_k».proof.Proof.Gen.KernelIdeal.Frame
public import proofs.«01_k».proof.Proof.Gen.KernelIdeal.Skeleton
public import proofs.«01_k».proof.Proof.Acc
public import Idealize.ShloMosaic.Lib.Pipeline.FrameBody
public import Idealize.ShloMosaic.Lib.Ring
public import Idealize.ShloMosaic.Lib.Tactic
public import Idealize.ShloMosaic.Lib.WordCmp
public import Idealize.ShloMosaic.Lib.Tactic.Stretches
public import Idealize.ShloMosaic.Lib.ValueIdxCore
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

def k0_pay1' (a : FVec F S256x512 .f32) : FVec F S256x512 .bf16 := truncf .bf16 a bitsLt_bf16_f32

set_option maxHeartbeats 7392000 in
set_option pp.maxSteps 200 in
theorem body_of_part67 (c : Dev nD) (i : grid0.Coords) (arg1 : Memref sig .tc .vmem S256x6656 .bf16) (harg1 : arg1.IsWhole) (arg2 : Memref sig .tc .vmem S6656x512 .fp8e4m3) (harg2 : arg2.IsWhole) (arg3 : Memref sig .tc .smem S52x36 .f32) (harg3 : arg3.IsWhole) (arg4 : Memref sig .tc .vmem S256x512 .bf16) (harg4 : arg4.IsWhole) (arg5 : Memref sig .tc .vmem S256x6656 .fp8e4m3) (harg5 : arg5.IsWhole) (arg6 : Memref sig .tc .vmem S256x52 .f32) (harg6 : arg6.IsWhole) (arg7 : Memref sig .tc .vmem S256x6656 .bf16) (harg7 : arg7.IsWhole)
    (x0 : Vec F S256x6656 .bf16) (x1 : Vec F S6656x512 .fp8e4m3) (x2 : Vec F S52x36 .f32) (f4 f5 f6 f7 g5 g6) (xd : Vec F S256x6656 .bf16) (E : Set ℕ)
    (hcut : iprop((arg1.view.loc c ↦{fullShare} harg1.unread x0) ∗ (arg2.view.loc c ↦{fullShare} harg2.unread x1) ∗ (arg3.view.loc c ↦{fullShare} harg3.unread x2)
      ∗ (arg5.view.loc c ↦{fullShare} f5) ∗ (arg6.view.loc c ↦{fullShare} f6) ∗ (arg7.view.loc c ↦{fullShare} f7))
      ⊢ wp frame (wpE (defs₀ (F := F)) Variants.none c none) E (k0_part67 i arg1 harg1 arg2 harg2 arg3 harg3 arg4 harg4 arg5 harg5 arg6 harg6 arg7 harg7)
        (fun (r : Ret67 F) => (iprop(⌜r.1 = BitVec.ofNat 32 (i 0)⌝ ∗ ⌜r.2.1 = k0_pay366⌝ ∗ ⌜r.2.2.1 = ret67_2 i arg2 harg2 arg3 harg3 x1 x2⌝
        ∗ ⌜r.2.2.2.1 = ret67_3 i arg2 harg2 arg3 harg3 x1 x2⌝ ∗ ⌜r.2.2.2.2 = ret67_4 i arg3 harg3 x2⌝
        ∗ (arg1.view.loc c ↦{fullShare} harg1.unread x0) ∗ (arg2.view.loc c ↦{fullShare} harg2.unread x1) ∗ (arg3.view.loc c ↦{fullShare} harg3.unread x2)
        ∗ (arg5.view.loc c ↦{fullShare} g5) ∗ (arg6.view.loc c ↦{fullShare} g6) ∗ (arg7.view.loc c ↦{fullShare} harg7.unread xd)) : sProp 𝕄)))
    :
    iprop((arg1.view.loc c ↦{fullShare} harg1.unread x0) ∗ (arg2.view.loc c ↦{fullShare} harg2.unread x1) ∗ (arg3.view.loc c ↦{fullShare} harg3.unread x2)
      ∗ (arg4.view.loc c ↦{fullShare} f4) ∗ (arg5.view.loc c ↦{fullShare} f5) ∗ (arg6.view.loc c ↦{fullShare} f6) ∗ (arg7.view.loc c ↦{fullShare} f7))
      ⊢ wp frame (wpE (defs₀ (F := F)) Variants.none c none) E (cc0_fp8_linear i arg1 harg1 arg2 harg2 arg3 harg3 arg4 harg4 arg5 harg5 arg6 harg6 arg7 harg7)
        (fun (_ : PUnit) => (iprop((arg1.view.loc c ↦{fullShare} harg1.unread x0) ∗ (arg2.view.loc c ↦{fullShare} harg2.unread x1) ∗ (arg3.view.loc c ↦{fullShare} harg3.unread x2)
        ∗ (arg4.view.loc c ↦{fullShare} harg4.unread (Yblk xd x1 x2 (i 0)))
        ∗ (arg5.view.loc c ↦{fullShare} g5) ∗ (arg6.view.loc c ↦{fullShare} g6) ∗ (arg7.view.loc c ↦{fullShare} harg7.unread xd)) : sProp 𝕄)) := by
    simp only [cc0_fp8_linear_eq_skeleton]
    unfold cc0_fp8_linear_skel
    simp only [k0_part120_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    iintro ⟨H0, H1, H2, H3, H4, H5, HS0⟩
    sl_exec
    have e1 : v3 = _ := hk0_part67_1
    have e2 : v22 = _ := hk0_part67_2
    have e3 : v31 = _ := hk0_part67_3
    have e4 : v36 = _ := hk0_part67_4
    subst e1 e2 e3 e4
    sl_step
    isplitl [Hk0_part67_5]; · iexact Hk0_part67_5
    isplitl [Hk0_part67_6]; · iexact Hk0_part67_6
    isplitl [Hk0_part67_7]; · iexact Hk0_part67_7
    isplitl [H3]
    · iapply (pts_unread c arg4 harg4 (Yblk xd x1 x2 (i 0)) _ ?_); rotate_left; · iexact H3
      refine funext fun y => View.read_writes_apply_of_pieces arg4.view f4 (Yblk xd x1 x2 (i 0)) _ ?_ y ?_
      rotate_left; · exact View.cover_of_tiled (s := S256x512) _ S256x512.size (by rfl) y
      refine List.forall_mem_cons.mpr ⟨fun x => ?_, fun p hp => absurd hp List.not_mem_nil⟩
      refine Eq.trans (b := Yblk xd x1 x2 (i 0) x) ?_ (congrArg (Yblk xd x1 x2 (i 0)) ?_)
      · refine congrFun (Eq.trans (b := k0_pay1' (accL26 i arg2 harg2 arg3 harg3 arg7 harg7 xd x1 x2)) ?_ ?_) x
        · rfl
        · exact congrArg k0_pay1' (accL_eq26 i arg2 harg2 arg3 harg3 arg7 harg7 xd x1 x2)
      · funext d
        match d with
        | ⟨0, _⟩ => exact Fin.ext (show (x 0).val = 0 + 1 * (x 0).val by omega)
        | ⟨1, _⟩ => exact Fin.ext (show (x 1).val = 0 + 1 * (x 1).val by omega)
    isplitl [Hk0_part67_8]; · iexact Hk0_part67_8
    isplitl [Hk0_part67_9]; · iexact Hk0_part67_9
    iexact Hk0_part67_10

end Cert.KernelIdeal.Gen

end
-- ==== Proof.Run.lean ====
module

public import proofs.«01_k».proof.Proof.Gen.KernelIdeal.Frame
public import proofs.«01_k».proof.Proof.Gen.KernelIdeal.Skeleton
public import proofs.«01_k».proof.Proof.Tail
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Tactic.Stretches
public import Idealize.ShloMosaic.Lib.ValueIdxCore
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## The body on whole staging memrefs, in its two cases -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-- The first point: whatever the outputs and the scratch held, the body leaves the codes, the scales and the dequantised x
    of the x block, and the y block computed from them. -/
theorem kernelRun_A (c : Dev nD) (i : grid0.Coords) (arg1 : Memref sig .tc .vmem S256x6656 .bf16) (harg1 : arg1.IsWhole) (arg2 : Memref sig .tc .vmem S6656x512 .fp8e4m3) (harg2 : arg2.IsWhole) (arg3 : Memref sig .tc .smem S52x36 .f32) (harg3 : arg3.IsWhole) (arg4 : Memref sig .tc .vmem S256x512 .bf16) (harg4 : arg4.IsWhole) (arg5 : Memref sig .tc .vmem S256x6656 .fp8e4m3) (harg5 : arg5.IsWhole) (arg6 : Memref sig .tc .vmem S256x52 .f32) (harg6 : arg6.IsWhole) (arg7 : Memref sig .tc .vmem S256x6656 .bf16) (harg7 : arg7.IsWhole) (hc0 : k0_cond1 i = 1#1)
    (x0 : Vec F S256x6656 .bf16) (x1 : Vec F S6656x512 .fp8e4m3) (x2 : Vec F S52x36 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare (Yblk (XD x0) x1 x2 (i 0)) ∗ owns (c : Thread nD τ) arg5 fullShare (CODES x0)
          ∗ owns (c : Thread nD τ) arg6 fullShare (SCALE x0) ∗ owns (c : Thread nD τ) arg7 fullShare (XD x0)) -∗ K ⟨⟩))
      ⊢ wp frame (wpE (defs₀ (F := F)) Variants.none c none) E (cc0_fp8_linear i arg1 harg1 arg2 harg2 arg3 harg3 arg4 harg4 arg5 harg5 arg6 harg6 arg7 harg7) K := by
  unfold owns
  simp only [harg1.set_eq_univ, harg2.set_eq_univ, harg3.set_eq_univ, harg4.set_eq_univ, harg5.set_eq_univ, harg6.set_eq_univ, harg7.set_eq_univ]
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2
  iapply (wp_wand_r frame (wpE (defs₀ (F := F)) Variants.none c none) E)
  isplitr [Hk]
  · iapply (body_of_part67 c i arg1 harg1 arg2 harg2 arg3 harg3 arg4 harg4 arg5 harg5 arg6 harg6 arg7 harg7 x0 x1 x2 f3 f4 f5 fs0 _ _ (XD x0) E (part67_A c i arg1 harg1 arg2 harg2 arg3 harg3 arg4 harg4 arg5 harg5 arg6 harg6 arg7 harg7 hc0 x0 x1 x2 f4 f5 fs0 E))
    isplitl [H0]; · iexact H0
    isplitl [H1]; · iexact H1
    isplitl [H2]; · iexact H2
    isplitl [H3]; · iexact H3
    isplitl [H4]; · iexact H4
    isplitl [H5]; · iexact H5
    iexact HS0
  iintro %r ⟨H0, H1, H2, H3, H4, H5, HS0⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; · ipureintro; exact harg7.read_unread _
  iexact HS0

/-- A later point: the outputs of the first point and the scratch are read or kept, and the y block is computed from the scratch. -/
theorem kernelRun_B (c : Dev nD) (i : grid0.Coords) (arg1 : Memref sig .tc .vmem S256x6656 .bf16) (harg1 : arg1.IsWhole) (arg2 : Memref sig .tc .vmem S6656x512 .fp8e4m3) (harg2 : arg2.IsWhole) (arg3 : Memref sig .tc .smem S52x36 .f32) (harg3 : arg3.IsWhole) (arg4 : Memref sig .tc .vmem S256x512 .bf16) (harg4 : arg4.IsWhole) (arg5 : Memref sig .tc .vmem S256x6656 .fp8e4m3) (harg5 : arg5.IsWhole) (arg6 : Memref sig .tc .vmem S256x52 .f32) (harg6 : arg6.IsWhole) (arg7 : Memref sig .tc .vmem S256x6656 .bf16) (harg7 : arg7.IsWhole) (hc0 : ¬ k0_cond1 i = 1#1)
    (x0 : Vec F S256x6656 .bf16) (x1 : Vec F S6656x512 .fp8e4m3) (x2 : Vec F S52x36 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare (CODES x0) ∗ owns (c : Thread nD τ) arg6 fullShare (SCALE x0)
        ∗ owns (c : Thread nD τ) arg7 fullShare (XD x0)
        ∗ (iprop(owns (c : Thread nD τ) arg1 fullShare x0 ∗ owns (c : Thread nD τ) arg2 fullShare x1 ∗ owns (c : Thread nD τ) arg3 fullShare x2
          ∗ owns (c : Thread nD τ) arg4 fullShare (Yblk (XD x0) x1 x2 (i 0)) ∗ owns (c : Thread nD τ) arg5 fullShare (CODES x0)
          ∗ owns (c : Thread nD τ) arg6 fullShare (SCALE x0) ∗ owns (c : Thread nD τ) arg7 fullShare (XD x0)) -∗ K ⟨⟩))
      ⊢ wp frame (wpE (defs₀ (F := F)) Variants.none c none) E (cc0_fp8_linear i arg1 harg1 arg2 harg2 arg3 harg3 arg4 harg4 arg5 harg5 arg6 harg6 arg7 harg7) K := by
  unfold owns
  simp only [harg1.set_eq_univ, harg2.set_eq_univ, harg3.set_eq_univ, harg4.set_eq_univ, harg5.set_eq_univ, harg6.set_eq_univ, harg7.set_eq_univ]
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hfs0
  iapply (wp_wand_r frame (wpE (defs₀ (F := F)) Variants.none c none) E)
  isplitr [Hk]
  · iapply (body_of_part67 c i arg1 harg1 arg2 harg2 arg3 harg3 arg4 harg4 arg5 harg5 arg6 harg6 arg7 harg7 x0 x1 x2 f3 _ _ _ _ _ (XD x0) E
      (part67_B c i arg1 harg1 arg2 harg2 arg3 harg3 arg4 harg4 arg5 harg5 arg6 harg6 arg7 harg7 hc0 x0 x1 x2 (harg5.unread (CODES x0)) (harg6.unread (SCALE x0)) (harg7.unread (XD x0)) E))
    isplitl [H0]; · iexact H0
    isplitl [H1]; · iexact H1
    isplitl [H2]; · iexact H2
    isplitl [H3]; · iexact H3
    isplitl [H4]; · iexact H4
    isplitl [H5]; · iexact H5
    iexact HS0
  iintro %r ⟨H0, H1, H2, H3, H4, H5, HS0⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; · ipureintro; exact harg7.read_unread _
  iexact HS0

variable (m : (ℓ : Loc nD τ sig) → Buf (Elt F) ℓ) (ρ : Dev nD → PrngReg)

/-! ## The windows at a point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The codes and the scales are stored at the first point only. -/
theorem liveAt0_4 (t : Fin cfg0.N) (h : t.val % 9 = 0) : cfg0.idle 4 (grid0.coords t) = false := by
  show (!(k0_cond1 (grid0.coords t) == 1#1)) = false
  rw [(hcond0_0 t).mpr h]; rfl
theorem liveAt0_5 (t : Fin cfg0.N) (h : t.val % 9 = 0) : cfg0.idle 5 (grid0.coords t) = false := by
  show (!(k0_cond1 (grid0.coords t) == 1#1)) = false
  rw [(hcond0_0 t).mpr h]; rfl

/-- Each window's current staging memref at point `t`, spelled as the pipeline passes it (`bodyAt0`), and its wholeness. -/
abbrev ms0_0 (t : Fin cfg0.N) : Memref sig .tc .vmem S256x6656 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6656x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S52x36 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6656 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x52 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x6656 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The first point. -/
abbrev t0 : Fin cfg0.N := ⟨0, lt_of_lt_of_eq (by decide : 0 < 9) N_0.symm⟩

/-- The x block, the same at every point. -/
def xb (c : Dev nD) : Vec F S256x6656 .bf16 := iblk m c 0 t0

theorem iblk0_eq (c : Dev nD) (t : Fin cfg0.N) : iblk m c 0 t = xb m c := rfl

/-! ## The pipeline's proof data -/

/-- The invariant at position n: before the first point the scratch holds anything, afterwards the dequantised x. -/
def PhiS (c : Dev nD) (n : ℕ) (h : n ≤ cfg0.N) : sProp 𝕄 :=
  match n with
  | 0 => Pipeline.ΦA spec0 c
  | _ + 1 => iprop(owns (c : Thread nD τ) scM0_0 fullShare (XD (xb m c)) ∗ (∃ r, prngReg c r))

/-- The arrays as the region finds them; after the body at point t: the inputs their blocks, the y block of the point, the codes and scales of
    the x block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Yblk (XD (xb m c)) (iblk m c 1 t) (iblk m c 2 t) (grid0.coords t 0)
    | ⟨4, _⟩ => CODES (xb m c)
    | ⟨5, _⟩ => SCALE (xb m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = Yblk (XD (xb m c)) (iblk m c 1 t) (iblk m c 2 t) (grid0.coords t 0) := by dsimp only [dats]
theorem after0_4 (c : Dev nD) (t : Fin cfg0.N) : (dats m 0 c).after 4 t = CODES (xb m c) := by dsimp only [dats]
theorem after0_5 (c : Dev nD) (t : Fin cfg0.N) : (dats m 0 c).after 5 t = SCALE (xb m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point the buffer of the codes holds them: it is written back at the last point only. -/
theorem before0_4 (c : Dev nD) : ∀ (n : ℕ) (hn : n + 1 < cfg0.N) (d), (dats m 0 c).before 4 ⟨n + 1, hn⟩ d = CODES (xb m c) := by
  intro n
  induction n with
  | zero =>
    intro hn d
    rw [(dats m 0 c).before_of_pos 4 ⟨0 + 1, hn⟩ (Nat.succ_ne_zero 0) ((cfg0.win 4).fetch_out rfl _),
      if_neg (by intro h; have := (flush0_4 _).mp h; dsimp only at this; omega)]
    unfold Dat.left
    rw [liveAt0_4 _ (by dsimp only)]
    dsimp only
    unfold Dat.kept
    rw [Pipeline.fill_of_clip_none _ _ (fun _ => rfl) d ((dats m 0 c).after 4 _), Pipeline.Window.fill_cut]
    dsimp only [dats]
  | succ k ih =>
    intro hn d
    have hN : k + 1 + 1 < 9 := lt_of_lt_of_eq hn N_0
    have hi : cfg0.idle 4 (grid0.coords ⟨k + 1, Nat.lt_of_succ_lt hn⟩) = true := by
      show (!(k0_cond1 (grid0.coords ⟨k + 1, Nat.lt_of_succ_lt hn⟩) == 1#1)) = true
      have : ¬ k0_cond1 (grid0.coords ⟨k + 1, Nat.lt_of_succ_lt hn⟩) = 1#1 := fun h => by
        have := (hcond0_0 _).mp h; dsimp only at this; omega
      simp [this]
    rw [(dats m 0 c).before_of_pos 4 ⟨k + 1 + 1, hn⟩ (Nat.succ_ne_zero _) ((cfg0.win 4).fetch_out rfl _),
      if_neg (by intro h; have := (flush0_4 _).mp h; dsimp only at this; omega)]
    unfold Dat.left
    rw [show cfg0.idle 4 (grid0.coords ⟨(⟨k + 1 + 1, hn⟩ : Fin cfg0.N).val - 1, Nat.lt_of_succ_lt hn⟩) = true from hi]
    exact ih (Nat.lt_of_succ_lt hn) d

theorem before0_4' (c : Dev nD) (t : Fin cfg0.N) (ht : ¬ t.val % 9 = 0) (d) : (dats m 0 c).before 4 t d = CODES (xb m c) := by
  obtain ⟨n, hn⟩ := t
  cases n with
  | zero => exact absurd rfl ht
  | succ k => exact before0_4 m c k hn d

/-- What the body leaves there. -/
theorem leaves0_4 (c : Dev nD) (t : Fin cfg0.N) :
    (owns (c : Thread nD τ) (ms0_4 t) fullShare (CODES (xb m c)) : sProp 𝕄) ⊢ (dats m 0 c).leavesExact 4 t := by
  by_cases h0 : t.val % 9 = 0
  · unfold Dat.leavesExact
    rw [liveAt0_4 t h0, after0_4]
  · have hi : cfg0.idle 4 (grid0.coords t) = true := by
      show (!(k0_cond1 (grid0.coords t) == 1#1)) = true
      have : ¬ k0_cond1 (grid0.coords t) = 1#1 := fun h => h0 ((hcond0_0 _).mp h)
      simp [this]
    cases hf : (cfg0.win 4).flush t with
    | false =>
      rw [(dats m 0 c).leavesExact_idle 4 t hi hf]
      iintro H; iexists (CODES (xb m c)); rw [before0_4' m c t h0]; iexact H
    | true =>
      unfold Dat.leavesExact
      rw [hi, hf, after0_4]

/-- After the first point the buffer of the scales holds them: it is written back at the last point only. -/
theorem before0_5 (c : Dev nD) : ∀ (n : ℕ) (hn : n + 1 < cfg0.N) (d), (dats m 0 c).before 5 ⟨n + 1, hn⟩ d = SCALE (xb m c) := by
  intro n
  induction n with
  | zero =>
    intro hn d
    rw [(dats m 0 c).before_of_pos 5 ⟨0 + 1, hn⟩ (Nat.succ_ne_zero 0) ((cfg0.win 5).fetch_out rfl _),
      if_neg (by intro h; have := (flush0_5 _).mp h; dsimp only at this; omega)]
    unfold Dat.left
    rw [liveAt0_5 _ (by dsimp only)]
    dsimp only
    unfold Dat.kept
    rw [Pipeline.fill_of_clip_none _ _ (fun _ => rfl) d ((dats m 0 c).after 5 _), Pipeline.Window.fill_cut]
    dsimp only [dats]
  | succ k ih =>
    intro hn d
    have hN : k + 1 + 1 < 9 := lt_of_lt_of_eq hn N_0
    have hi : cfg0.idle 5 (grid0.coords ⟨k + 1, Nat.lt_of_succ_lt hn⟩) = true := by
      show (!(k0_cond1 (grid0.coords ⟨k + 1, Nat.lt_of_succ_lt hn⟩) == 1#1)) = true
      have : ¬ k0_cond1 (grid0.coords ⟨k + 1, Nat.lt_of_succ_lt hn⟩) = 1#1 := fun h => by
        have := (hcond0_0 _).mp h; dsimp only at this; omega
      simp [this]
    rw [(dats m 0 c).before_of_pos 5 ⟨k + 1 + 1, hn⟩ (Nat.succ_ne_zero _) ((cfg0.win 5).fetch_out rfl _),
      if_neg (by intro h; have := (flush0_5 _).mp h; dsimp only at this; omega)]
    unfold Dat.left
    rw [show cfg0.idle 5 (grid0.coords ⟨(⟨k + 1 + 1, hn⟩ : Fin cfg0.N).val - 1, Nat.lt_of_succ_lt hn⟩) = true from hi]
    exact ih (Nat.lt_of_succ_lt hn) d

theorem before0_5' (c : Dev nD) (t : Fin cfg0.N) (ht : ¬ t.val % 9 = 0) (d) : (dats m 0 c).before 5 t d = SCALE (xb m c) := by
  obtain ⟨n, hn⟩ := t
  cases n with
  | zero => exact absurd rfl ht
  | succ k => exact before0_5 m c k hn d

/-- What the body leaves there. -/
theorem leaves0_5 (c : Dev nD) (t : Fin cfg0.N) :
    (owns (c : Thread nD τ) (ms0_5 t) fullShare (SCALE (xb m c)) : sProp 𝕄) ⊢ (dats m 0 c).leavesExact 5 t := by
  by_cases h0 : t.val % 9 = 0
  · unfold Dat.leavesExact
    rw [liveAt0_5 t h0, after0_5]
  · have hi : cfg0.idle 5 (grid0.coords t) = true := by
      show (!(k0_cond1 (grid0.coords t) == 1#1)) = true
      have : ¬ k0_cond1 (grid0.coords t) = 1#1 := fun h => h0 ((hcond0_0 _).mp h)
      simp [this]
    cases hf : (cfg0.win 5).flush t with
    | false =>
      rw [(dats m 0 c).leavesExact_idle 5 t hi hf]
      iintro H; iexists (SCALE (xb m c)); rw [before0_5' m c t h0]; iexact H
    | true =>
      unfold Dat.leavesExact
      rw [hi, hf, after0_5]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem Phi_succ (c : Dev nD) (t : Fin cfg0.N) :
    (dats m 0 c).Φ t.succ = iprop(owns (c : Thread nD τ) scM0_0 fullShare (XD (xb m c)) ∗ (∃ r, prngReg c r)) := rfl

theorem PhiS_pos (c : Dev nD) (n : ℕ) (h : n ≤ cfg0.N) (hn : n ≠ 0) :
    PhiS m c n h = iprop(owns (c : Thread nD τ) scM0_0 fullShare (XD (xb m c)) ∗ (∃ r, prngReg c r)) := by
  cases n with
  | zero => exact absurd rfl hn
  | succ k => rfl

theorem PhiS_zero (c : Dev nD) (n : ℕ) (h : n ≤ cfg0.N) (hn : n = 0) :
    PhiS m c n h = iprop(iprop((∃ d, owns (c : Thread nD τ) scM0_0 fullShare d)) ∗ (∃ r, prngReg c r)) := by
  subst hn; exact PhiA0_eq c

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, Phi_castSucc, show (dats m 0 c).owesAt () t.succ = (dats m 0 c).owesAt () t.castSucc from rfl]
  have hN : t.val < 9 := lt_of_lt_of_eq t.isLt (show cfg0.N = 9 from N_0)
  by_cases h0 : t.val % 9 = 0
  · rw [PhiS_zero m c t.val _ (by omega)]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply (kernelRun_A c (grid0.coords t) _ _ _ _ _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5
  · rw [PhiS_pos m c t.val _ (by omega)]
    simp only [before0_4' m c t h0, before0_5' m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply (kernelRun_B c (grid0.coords t) _ _ _ _ _ _ _ _ _ _ _ _ _ _ (fun h => h0 ((hcond0_0 t).mp h)) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays as the proof data says and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl)
    (hout := fun c => by
      rw [show (dats m 0 c).Φ (Fin.last (cfgs 0).N) = PhiS m c (cfgs 0).N (le_refl _) from rfl,
        PhiS_pos m c _ _ (by rw [show (cfgs 0).N = 9 from N_0]; decide), PhiA0_eq]
      iintro ⟨HS0, Hg⟩
      isplitl [HS0]; · iexists _; iexact HS0
      iexact Hg)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelValue.lean ====
module

public import proofs.«01_k».proof.Proof.Run
public import Idealize.ShloMosaic.Lib.Pipeline.ValueKit
public import Idealize.ShloMosaic.Lib.Claim

@[expose] public section

noncomputable section

namespace Cert.KernelIdeal.Gen

open Idealize.ShloMosaic hiding ix0 ix1 ix2 ix3 ix4 ix5
open Idealize.ShloMosaic.TcCoe
open Idealize.SL.Sem
open Idealize.ShloMosaic.Pipeline (Dat)
open Idealize.ShloMosaic.ValueIdx

variable {F : FTy → Type} [FloatOps F]

/-! ## The kernel's results as functions of its arguments -/

/-- x as a matrix. -/
def xMat (a0 : Vec F S256x1x6656 .bf16) : Vec F S256x6656 .bf16 := fun y => a0 (ix3 (y 0) 0 (y 1))

/-- The 512 columns of w that point j multiplies by. -/
def wCols (a1 : Vec F S6656x4608 .fp8e4m3) (j : Fin 9) : Vec F S6656x512 .fp8e4m3 :=
  fun y => a1 (ix2 (y 0) ⟨512 * j.val + (y 1).val, by have := idx2_lt1 y; omega⟩)

/-- The product. -/
def resY (a0 : Vec F S256x1x6656 .bf16) (a1 : Vec F S6656x4608 .fp8e4m3) (a2 : Vec F S52x36 .f32) : Vec F S256x4608 .bf16 :=
  fun y =>
    Yblk (XD (xMat a0)) (wCols a1 ⟨(y 1).val / 512, by have := idx2_lt1 y; omega⟩) a2 ⟨(y 1).val / 512, by have := idx2_lt1 y; omega⟩
      (ix2 (y 0) ⟨(y 1).val % 512, by omega⟩)

theorem resY_at (a0 : Vec F S256x1x6656 .bf16) (a1 : Vec F S6656x4608 .fp8e4m3) (a2 : Vec F S52x36 .f32) (t : Fin 9) (y : S256x512.Idx)
    (j : S256x4608.Idx) (h0 : (j 0).val = (y 0).val) (h1 : (j 1).val = t.val * 512 + (y 1).val) :
    resY a0 a1 a2 j = Yblk (XD (xMat a0)) (wCols a1 t) a2 t y := by
  have hy := idx2_lt1 y
  have hq : (⟨(j 1).val / 512, by have := idx2_lt1 j; omega⟩ : Fin 9) = t := Fin.ext (by show (j 1).val / 512 = t.val; omega)
  unfold resY
  rw [hq]
  rw [ValueIdx.eq_ix2 y]
  congr 1
  congr 1
  · exact Fin.ext h0
  · exact Fin.ext (by show (j 1).val % 512 = (y 1).val; omega)

variable (m : (ℓ : Loc nD τ sig) → Buf (Elt F) ℓ) (ρ : Dev nD → PrngReg)

theorem idx : ∀ t : Fin cfg0.N, win0_0.index t = ![0, 0] ∧ win0_1.index t = ![0, t.val] ∧ win0_2.index t = ![0, 0] ∧ win0_3.index t = ![0, t.val]
    ∧ win0_4.index t = ![0, 0] ∧ win0_5.index t = ![0, 0] ∧ (grid0.coords t 0).val = t.val :=
  (by decide +kernel : ∀ t : Fin grid0.N, win0_0.index t = ![0, 0] ∧ win0_1.index t = ![0, t.val] ∧ win0_2.index t = ![0, 0] ∧ win0_3.index t = ![0, t.val]
    ∧ win0_4.index t = ![0, 0] ∧ win0_5.index t = ![0, 0] ∧ (grid0.coords t 0).val = t.val)

theorem xb_eq (c : Dev nD) : xb m c = xMat (m ((c : Thread nD τ).loc main_arg0)) := by
  funext y
  unfold xb xMat
  blk_simp [iblk]
  entry_read
  pointwise
  blk_ext [idx t0]
  · exact (congrArg (· * 256 + (y 0).val) (congrFun (idx t0).1 0)).trans (Nat.zero_add _)
  · exact (congrArg (· * 6656 + (y 1).val) (congrFun (idx t0).1 1)).trans (Nat.zero_add _)

theorem iblk1_eq (c : Dev nD) (t : Fin cfg0.N) (j : Fin 9) (h : j.val = t.val) : iblk m c 1 t = wCols (m ((c : Thread nD τ).loc main_arg1)) j := by
  funext y
  unfold wCols
  blk_ext [iblk, V, idx t]

theorem iblk2_eq (c : Dev nD) (t : Fin cfg0.N) : iblk m c 2 t = m ((c : Thread nD τ).loc main_arg2) := by
  blk_ext! [iblk, V, idx t]

theorem final4 (c : Dev nD) : (dats m 0 c).arrAt 4 (cfgs 0).N = CODES (xMat (m ((c : Thread nD τ).loc main_arg0))) := by
  refine (dats m 0 c).arrAt_eq_of_covers 4 _ (by decide +kernel) fun t hf y => ?_
  blk_simp
  rw [after0_4, xb_eq]
  blk_ext [idx t]

theorem final5 (c : Dev nD) : (dats m 0 c).arrAt 5 (cfgs 0).N = SCALE (xMat (m ((c : Thread nD τ).loc main_arg0))) := by
  refine (dats m 0 c).arrAt_eq_of_covers 5 _ (by decide +kernel) fun t hf y => ?_
  blk_simp
  rw [after0_5, xb_eq]
  blk_ext [idx t]

theorem final3 (c : Dev nD) : (dats m 0 c).arrAt 3 (cfgs 0).N
    = resY (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht : t.val < 9 := lt_of_lt_of_eq t.isLt N_0
  rw [after0_3, xb_eq, iblk2_eq, iblk1_eq m c t ⟨t.val, ht⟩ rfl,
    show (grid0.coords t 0 : Fin 9) = ⟨t.val, ht⟩ from Fin.ext (idx t).2.2.2.2.2.2]
  refine (resY_at _ _ _ ⟨t.val, ht⟩ y _ ?_ ?_).symm
  · blk_simp [idx t]
  · blk_simp [idx t]

/-- What a run leaves. -/
theorem kernel_run : θ_run defs (onTc (τ := τ) (main (F := F))) ⟨m, fun _ => 0, ρ⟩ (fun r => ∀ c : Dev nD,
      r.2.mem ((c.tc : Thread nD τ).loc main_v1_0) = resY (m ((c : Thread nD τ).loc main_arg0)) (m ((c : Thread nD τ).loc main_arg1)) (m ((c : Thread nD τ).loc main_arg2))
      ∧ r.2.mem ((c.tc : Thread nD τ).loc main_v1_1) = CODES (xMat (m ((c : Thread nD τ).loc main_arg0)))
      ∧ r.2.mem ((c.tc : Thread nD τ).loc main_v1_2) = SCALE (xMat (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c),
    (h.2 c).1, (h.2 c).2.1, (h.2 c).2.2⟩) (θ_run_and (run_main m ρ) (unchanged m ρ))

end Cert.KernelIdeal.Gen

end
-- ==== Proof.RefValue.lean ====
module

public import proofs.«01_k».proof.Proof.Gen.ReferenceIdeal.Value
public import Idealize.ShloMosaic.Lib.Pipeline.ValueKit
public import Idealize.ShloMosaic.Lib.Claim

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

/-! ## The reference's results as functions of its arguments -/

section
variable {F : FTy → Type} [FloatOps F]

/-- x in groups of 128. -/
def rX (a0 : Vec F S256x1x6656 .bf16) : FVec F S256x52x128 .f32 :=
  shapeCast S256x52x128 (extf .f32 (shapeCast S256x6656 a0 shapeCasts_S256x1x6656_S256x6656) bitsLt_bf16_f32) shapeCasts_S256x6656_S256x52x128

/-- The largest magnitude of each group. -/
def aOf (x : FVec F S256x52x128 .f32) : FVec F S256x52 .f32 :=
  Host.reduce FloatOps.maximumf (Host.absf x) (constant S_ .f32 0xFF800000#32) reducesTo_S256x52x128_S256x52_d2 h_S_

/-- The exponent of each group, from its largest magnitude. -/
def eOf (a : FVec F S256x52 .f32) : FVec F S256x52 .f32 :=
  select (cmpf .oeq a (broadcastInDim S256x52 ![] bcast_S_S256x52 (constant S_ .f32 0x00000000#32)))
    (broadcastInDim S256x52 ![] bcast_S_S256x52 (id (constant S_ .f32 0x00000000#32)))
    (addf (Host.floor (Host.divf (Host.log (mulf a (broadcastInDim S256x52 ![] bcast_S_S256x52 (constant S_ .f32 0x3B124925#32))))
        (broadcastInDim S256x52 ![] bcast_S_S256x52 (Host.log (constant S_ .f32 0x40000000#32)))))
      (broadcastInDim S256x52 ![] bcast_S_S256x52 (constant S_ .f32 0x3F800000#32)))

def rE (a0 : Vec F S256x1x6656 .bf16) : FVec F S256x52 .f32 := eOf (aOf (rX a0))

/-- The scales. -/
def rScale (a0 : Vec F S256x1x6656 .bf16) : FVec F S256x52 .f32 :=
  Host.powf (broadcastInDim S256x52 ![] bcast_S_S256x52 (constant S_ .f32 0x40000000#32)) (rE a0)

/-- The inverses of the scales. -/
def rInv (a0 : Vec F S256x1x6656 .bf16) : FVec F S256x52 .f32 :=
  Host.powf (broadcastInDim S256x52 ![] bcast_S_S256x52 (constant S_ .f32 0x40000000#32)) (Host.negf (rE a0))

/-- The codes: the quotients, clipped and cast. -/
def qOf (x : FVec F S256x52x128 .f32) (inv : FVec F S256x52 .f32) : Vec F S256x6656 .fp8e4m3 :=
  shapeCast S256x6656
    (Host.convertf .fp8e4m3 (minimumf (broadcastInDim S256x52x128 ![] bcast_S_S256x52x128 (id (constant S_ .f32 0x43E00000#32)))
      (maximumf (broadcastInDim S256x52x128 ![] bcast_S_S256x52x128 (id (constant S_ .f32 0xC3E00000#32)))
        (mulf x (broadcastInDim S256x52x128 ![0, 1, 2] bcast_S256x52x1_S256x52x128_0_1_2
          (broadcastInDim S256x52x1 ![0, 1] bcast_S256x52_S256x52x1_0_1 inv))))))
    shapeCasts_S256x52x128_S256x6656

def rQ (a0 : Vec F S256x1x6656 .bf16) : Vec F S256x6656 .fp8e4m3 := qOf (rX a0) (rInv a0)

/-- The product of the codes by the weights. -/
def rY (a0 : Vec F S256x1x6656 .bf16) (a1 : Vec F S6656x4608 .fp8e4m3) (a2 : Vec F S52x36 .f32) : FVec F S256x4608 .bf16 :=
  k0_pay1 (rQ a0) a1 (rScale a0) a2

variable (m : (ℓ : Loc nD τ sig) → Buf (Elt F) ℓ) (ρ : Dev nD → PrngReg)

set_option maxRecDepth 65536 in
theorem V18 (c : Dev nD) : V m c main_v18 = rScale (m ((c : Thread nD τ).loc main_arg0)) := by
  simp only [V, hostOps0, hostOps0_1, hostOps0_2, hostOps0_3, hostOps0_4, List.flatten_cons, List.flatten_nil, List.append_nil, List.cons_append, List.nil_append]
  entry_read
  rfl

set_option maxRecDepth 65536 in
theorem V27 (c : Dev nD) : V m c main_v27 = rQ (m ((c : Thread nD τ).loc main_arg0)) := by
  simp only [V, hostOps0, hostOps0_1, hostOps0_2, hostOps0_3, hostOps0_4, List.flatten_cons, List.flatten_nil, List.append_nil, List.cons_append, List.nil_append]
  entry_read
  rfl

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0])

theorem iblk0 (c : Dev nD) : iblk m c 0 t0_0 = rQ (m ((c : Thread nD τ).loc main_arg0)) := by
  rw [← V27]
  blk_ext! [iblk, idx t0_0]

theorem iblk1 (c : Dev nD) : iblk m c 1 t0_0 = m ((c : Thread nD τ).loc main_arg1) := by
  blk_ext! [iblk, V, idx t0_0]

theorem iblk2 (c : Dev nD) : iblk m c 2 t0_0 = rScale (m ((c : Thread nD τ).loc main_arg0)) := by
  rw [← V18]
  blk_ext! [iblk, idx t0_0]

theorem iblk3 (c : Dev nD) : iblk m c 3 t0_0 = m ((c : Thread nD τ).loc main_arg2) := by
  blk_ext! [iblk, V, idx t0_0]

theorem final4 (c : Dev nD) : (dats m 0 c).arrAt 4 (cfgs 0).N
    = rY (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4, iblk0, iblk1, iblk2, iblk3]
  unfold rY
  frame_out

/-- What a run leaves. -/
theorem reference_run : θ_run defs (onTc (τ := τ) (main (F := F))) ⟨m, fun _ => 0, ρ⟩ (fun r => ∀ c : Dev nD,
      r.2.mem ((c.tc : Thread nD τ).loc main_v28) = rY (m ((c : Thread nD τ).loc main_arg0)) (m ((c : Thread nD τ).loc main_arg1)) (m ((c : Thread nD τ).loc main_arg2))
      ∧ r.2.mem ((c.tc : Thread nD τ).loc main_v27) = rQ (m ((c : Thread nD τ).loc main_arg0))
      ∧ r.2.mem ((c.tc : Thread nD τ).loc main_v18) = rScale (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(post4 m r h c).trans (final4 m c),
    ((h c).1 0).trans (((dats m 0 c).arrAt_in 0 rfl _).trans ((A_eq m c 0).trans (V27 m c))),
    ((h c).1 2).trans (((dats m 0 c).arrAt_in 2 rfl _).trans ((A_eq m c 2).trans (V18 m c))),
    kept_main_arg0 m r h c, kept_main_arg1 m r h c, kept_main_arg2 m r h c⟩) (run_main m ρ)

end

end Cert.ReferenceIdeal.Value

end
-- ==== Proof.Exp.lean ====
module

public import Idealize.ShloMosaic.PureOps.Ideal.Laws
public import Idealize.ShloMosaic.Lib.IdealHost
public import Idealize.ShloMosaic.PureOps.Reduce

@[expose] public section

noncomputable section

/-! ## The exponent of a scaled maximum, as the kernel and as the reference find it -/

namespace Cert.Expo

open Idealize.ShloMosaic

/-- The word whose exponent field is k denotes 2^(k - 127), for k from 1 to 254. -/
theorem word_fields : ∀ k : Fin 256, ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem word_zero : Ideal.ofBits .f32 (IntOp.shli .vector (BitVec.ofNat 32 0) 23#32) = 0 := by
  obtain ⟨h1, h2, h3⟩ := word_fields 0
  unfold Ideal.ofBits Ideal.ieee
  simp only [Fin.val_zero] at h1 h2 h3
  simp [h1, h2, h3]

theorem ieee_pow (b : BitVec 32) (k : ℕ) (h0 : 1 ≤ k) (h1 : k ≤ 254) (g1 : (b.extractLsb' 31 1 == 1#1) = false)
    (g2 : (b.extractLsb' 23 8).toNat = k) (g3 : (b.extractLsb' 0 23).toNat = 0) :
    Ideal.ieee 8 23 b = (((2 : ℝ) ^ ((k : ℤ) - 127) : ℝ) : EReal) := by
  have e1 : ¬ k = 2 ^ 8 - 1 := by omega
  have e2 : ¬ k = 0 := by omega
  unfold Ideal.ieee
  rw [g2, g3, show (8 + 23 : ℕ) = 31 from rfl, g1]
  rw [if_neg e1, if_neg e2]
  refine congrArg (fun r : ℝ => (r : EReal)) ?_
  have h2 : (2 : ℝ) ≠ 0 := by norm_num
  rw [show ((k : ℤ) - (2 ^ (8 - 1) - 1) - (23 : ℕ) : ℤ) = ((k : ℤ) - 127) + (-23) by norm_num; omega, zpow_add₀ h2]
  norm_num
  ring

theorem word_pow (k : ℕ) (h0 : 1 ≤ k) (h1 : k ≤ 254) :
    Ideal.ofBits .f32 (IntOp.shli .vector (BitVec.ofNat 32 k) 23#32) = (((2 : ℝ) ^ ((k : ℤ) - 127) : ℝ) : EReal) := by
  obtain ⟨g1, g2, g3⟩ := word_fields ⟨k, by omega⟩
  exact ieee_pow _ k h0 h1 g1 g2 g3

theorem word_top : Ideal.ofBits .f32 (IntOp.shli .vector (BitVec.ofNat 32 255) 23#32) = ⊤ := by
  obtain ⟨h1, h2, h3⟩ := word_fields 255
  have e : ((255 : Fin 256) : ℕ) = 255 := rfl
  rw [e] at h1 h2 h3
  unfold Ideal.ofBits Ideal.ieee
  simp [h1, h2, h3]

/-- The exponent field of a number, found as the last k whose word is at most the number. -/
def kBits (P : EReal) : BitVec 32 :=
  Finset.fold IntOp.maxsi (2147483648#32)
    (fun k : Fin 256 => if Ideal.ofBits .f32 (IntOp.shli .vector (BitVec.ofNat 32 k.val) 23#32) ≤ P then BitVec.ofNat 32 k.val else 0#32)
    Finset.univ

/-- The exponent field of the scale. -/
def kE (P : EReal) : BitVec 32 :=
  Scalar.select (IntOp.cmpi .eq (kBits P) 0#32) (127#32) (IntOp.addi (kBits P) 1#32)

/-- The exponent of the scale of a group whose largest magnitude is A, scaled P, by logarithms. -/
def rE (A P : EReal) : EReal :=
  if A = 0 then 0
  else Ideal.liftRound Int.floor (Ideal.div (Ideal.log P) (Ideal.log (Ideal.ofBits .f32 0x40000000#32))) + 1

theorem toInt_ofNat (k : ℕ) (h : k < 256) : (BitVec.ofNat 32 k).toInt = k := by
  rw [BitVec.toInt_eq_toNat_of_lt] <;> simp <;> omega

/-- The fold finds n if exactly the k up to n pass. -/
theorem kBits_of (P : EReal) (n : ℕ) (hn : n < 256)
    (h : ∀ k : Fin 256, Ideal.ofBits .f32 (IntOp.shli .vector (BitVec.ofNat 32 k.val) 23#32) ≤ P ↔ k.val ≤ n) : kBits P = BitVec.ofNat 32 n := by
  have hm : ∀ x y : BitVec 32, (IntOp.maxsi x y).toInt = max x.toInt y.toInt := by
    intro x y
    unfold IntOp.maxsi
    simp only [BitVec.slt_eq_decide, BitVec.sle_eq_decide]
    split_ifs with hh <;> simp at hh <;> omega
  apply BitVec.eq_of_toInt_eq
  unfold kBits
  rw [toInt_ofNat n hn]
  have hf := Finset.fold_hom (op := IntOp.maxsi) (op' := (max : ℤ → ℤ → ℤ)) (m := BitVec.toInt) (hm := fun x y => (hm x y)) (b := 2147483648#32)
    (f := fun k : Fin 256 => if Ideal.ofBits .f32 (IntOp.shli .vector (BitVec.ofNat 32 k.val) 23#32) ≤ P then BitVec.ofNat 32 k.val else 0#32)
    (s := Finset.univ)
  rw [← hf]
  apply le_antisymm
  · rw [Finset.fold_max_le]
    refine ⟨(show (2147483648#32).toInt ≤ (0 : ℤ) by decide).trans (by omega), fun k _ => ?_⟩
    show BitVec.toInt (if _ then _ else _) ≤ _
    split_ifs with hk
    · rw [toInt_ofNat _ k.isLt]; exact_mod_cast (h k).mp hk
    · simp
  · rw [Finset.le_fold_max]
    refine Or.inr ⟨⟨n, hn⟩, Finset.mem_univ _, ?_⟩
    show _ ≤ BitVec.toInt (if _ then _ else _)
    rw [if_pos ((h ⟨n, hn⟩).mpr le_rfl), toInt_ofNat n hn]

theorem two_word : Ideal.ofBits .f32 0x40000000#32 = ((2 : ℝ) : EReal) := by
  have := word_pow 128 (by omega) (by omega)
  rw [show IntOp.shli .vector (BitVec.ofNat 32 128) 23#32 = 0x40000000#32 by decide +kernel] at this
  rw [this]; norm_num

theorem tiny_word : Ideal.ofBits .f32 0x00800000#32 = (((2 : ℝ) ^ (-126 : ℤ) : ℝ) : EReal) := by
  have := word_pow 1 (by omega) (by omega)
  rw [show IntOp.shli .vector (BitVec.ofNat 32 1) 23#32 = 0x00800000#32 by decide +kernel] at this
  rw [this]; norm_num

/-- Both find the same exponent, unless a nonzero P is below the least normal number: the kernel's words denote the power of two and its inverse. -/
theorem expo (A : EReal) (P : ℝ) (h0 : 0 ≤ P) (h1 : P < (2 : ℝ) ^ (120 : ℤ)) (hz : A = 0 → P = 0) (hn : A = 0 ∨ (2 : ℝ) ^ (-126 : ℤ) ≤ P) : ∃ e : ℤ,
    Ideal.ofBits .f32 (IntOp.shli .vector (kE (P : EReal)) 23#32) = (((2 : ℝ) ^ e : ℝ) : EReal)
    ∧ Ideal.ofBits .f32 (IntOp.shli .vector (IntOp.subi 254#32 (kE (P : EReal))) 23#32) = (((2 : ℝ) ^ (-e) : ℝ) : EReal)
    ∧ rE A (P : EReal) = ((e : ℝ) : EReal) := by
  have h2 : (1 : ℝ) < 2 := by norm_num
  by_cases ht : P < (2 : ℝ) ^ (-126 : ℤ)
  · refine ⟨0, ?_⟩
    have hb : kBits (P : EReal) = BitVec.ofNat 32 0 := by
      refine kBits_of _ 0 (by omega) fun k => ?_
      by_cases hk : k.val = 0
      · simp only [hk, word_zero, le_refl, iff_true]; exact_mod_cast h0
      · simp only [nonpos_iff_eq_zero, hk, iff_false, not_le]
        by_cases hk' : k.val = 255
        · rw [hk', word_top]; exact EReal.coe_lt_top _
        · rw [word_pow _ (by omega) (by have := k.isLt; omega)]
          refine EReal.coe_lt_coe_iff.mpr (ht.trans_le ?_)
          exact zpow_le_zpow_right₀ h2.le (by omega)
    have he : kE (P : EReal) = BitVec.ofNat 32 127 := by
      unfold kE; rw [hb]; decide +kernel
    rw [he, show IntOp.subi 254#32 (BitVec.ofNat 32 127) = BitVec.ofNat 32 127 by decide +kernel, word_pow 127 (by omega) (by omega)]
    refine ⟨by norm_num, by norm_num, ?_⟩
    unfold rE
    rw [if_pos (hn.resolve_right (not_le.mpr ht))]
    simp
  · have hP : 0 < P := lt_of_lt_of_le (zpow_pos (by norm_num) _) (not_lt.mp ht)
    obtain ⟨L, hlo, hhi⟩ := exists_mem_Ico_zpow hP h2
    have hL0 : -126 ≤ L := by
      by_contra hc
      exact ht (hhi.trans_le (zpow_le_zpow_right₀ h2.le (by omega)))
    have hL1 : L < 120 := by
      by_contra hc
      exact absurd (h1.trans_le (zpow_le_zpow_right₀ h2.le (by omega))) (not_lt.mpr hlo)
    obtain ⟨n, hn⟩ : ∃ n : ℕ, (n : ℤ) = L + 127 := ⟨(L + 127).toNat, by omega⟩
    refine ⟨L + 1, ?_⟩
    have hb : kBits (P : EReal) = BitVec.ofNat 32 n := by
      refine kBits_of _ n (by omega) fun k => ?_
      by_cases hk : k.val = 0
      · simp only [hk, word_zero, zero_le, iff_true]; exact_mod_cast h0
      · by_cases hk' : k.val = 255
        · rw [hk', word_top]
          exact ⟨fun hh => absurd (EReal.coe_lt_top P) (not_lt.mpr hh), fun hh => by omega⟩
        · rw [word_pow _ (by omega) (by have := k.isLt; omega), EReal.coe_le_coe_iff]
          constructor
          · intro hh
            by_contra hc
            exact absurd (hhi.trans_le ((zpow_le_zpow_right₀ h2.le (by omega)).trans hh)) (lt_irrefl _)
          · intro hh
            exact (zpow_le_zpow_right₀ h2.le (by omega)).trans hlo
    have he : kE (P : EReal) = BitVec.ofNat 32 (n + 1) := by
      unfold kE; rw [hb]
      exact (by decide +kernel : ∀ n : Fin 256, 0 < n.val → Scalar.select (IntOp.cmpi .eq (BitVec.ofNat 32 n.val) 0#32) (127#32) (IntOp.addi (BitVec.ofNat 32 n.val) 1#32) = BitVec.ofNat 32 (n.val + 1)) ⟨n, by omega⟩ (by show 0 < n; omega)
    have hs : IntOp.subi 254#32 (BitVec.ofNat 32 (n + 1)) = BitVec.ofNat 32 (253 - n) :=
      (by decide +kernel : ∀ n : Fin 253, IntOp.subi 254#32 (BitVec.ofNat 32 (n.val + 1)) = BitVec.ofNat 32 (253 - n.val)) ⟨n, by omega⟩
    rw [he, hs, word_pow _ (by omega) (by omega), word_pow _ (by omega) (by omega)]
    refine ⟨?_, ?_, ?_⟩
    · rw [show (((n + 1 : ℕ) : ℤ) - 127) = L + 1 by push_cast; omega]
    · rw [show (((253 - n : ℕ) : ℤ) - 127) = -(L + 1) by omega]
    · unfold rE
      rw [if_neg (fun hA => hP.ne' (hz hA)), two_word, Ideal.log_coe, Ideal.log_coe, if_neg (not_le.mpr hP), if_neg (by norm_num)]
      have hl2 : Real.log 2 ≠ 0 := (Real.log_pos h2).ne'
      have hd : Ideal.div (Real.log P : EReal) (Real.log 2 : EReal) = ((Real.log P / Real.log 2 : ℝ) : EReal) := by
        unfold Ideal.div
        rw [if_neg (by exact_mod_cast hl2), div_eq_mul_inv, EReal.coe_mul, EReal.coe_inv]
      rw [hd, Ideal.liftRound_coe]
      have hf : ⌊Real.log P / Real.log 2⌋ = L := by
        have hl : 0 < Real.log 2 := Real.log_pos h2
        rw [Int.floor_eq_iff, le_div_iff₀ hl, div_lt_iff₀ hl]
        constructor
        · have := Real.log_le_log (zpow_pos (by norm_num) _) hlo
          rwa [Real.log_zpow] at this
        · have := Real.log_lt_log hP hhi
          rw [Real.log_zpow] at this
          push_cast at this
          exact this
      rw [hf]
      push_cast
      rfl

/-- 2 to an integer power. -/
theorem pow_int (e : ℤ) : Ideal.pow (Ideal.ofBits .f32 0x40000000#32) ((e : ℝ) : EReal) = (((2 : ℝ) ^ e : ℝ) : EReal) := by
  rw [two_word]
  show ((Real.rpow 2 e : ℝ) : EReal) = _
  congr 1
  exact Real.rpow_intCast 2 e

theorem neg_inf_bf16 : Ideal.ofBits .bf16 0xFF80#16 = ⊥ := by simp [Ideal.ofBits, Ideal.ieee]

theorem neg_inf_f32 : Ideal.ofBits .f32 0xFF800000#32 = ⊥ := by simp [Ideal.ofBits, Ideal.ieee]

theorem pos_inf_f32 : Ideal.ofBits .f32 0x7F800000#32 = ⊤ := by simp [Ideal.ofBits, Ideal.ieee]

theorem bf16_max : Ideal.ofBits .bf16 0x7F7F#16 = ((255 * (2 : ℝ) ^ (120 : ℤ) : ℝ) : EReal) := by
  simp [Ideal.ofBits, Ideal.ieee]

theorem inv448 : Ideal.ofBits .f32 0x3B124925#32 = ((9586981 * (2 : ℝ) ^ (-32 : ℤ) : ℝ) : EReal) := by
  simp [Ideal.ofBits, Ideal.ieee]

/-- The largest magnitude of a group. -/
def amx (f : Fin 128 → EReal) : EReal := Finset.fold max ⊥ (fun k => max (f k) (-(f k))) Finset.univ

/-- The scaled maximum of the magnitudes of a group. -/
def pmax (f : Fin 128 → EReal) : EReal := amx f * Ideal.ofBits .f32 0x3B124925#32

/-- The scaled maximum of a group of finite bf16 values is a number the kernel's exponent field can express. -/
theorem pmax_real (f : Fin 128 → EReal) (h : ∀ k, max (f k) (-(f k)) ≤ Ideal.ofBits .bf16 0x7F7F#16) :
    ∃ P : ℝ, 0 ≤ P ∧ P < (2 : ℝ) ^ (120 : ℤ) ∧ pmax f = (P : EReal) := by
  rw [bf16_max] at h
  have hhi : Finset.fold max ⊥ (fun k => max (f k) (-(f k))) Finset.univ ≤ ((255 * (2 : ℝ) ^ (120 : ℤ) : ℝ) : EReal) := by
    rw [Finset.fold_max_le]
    exact ⟨bot_le, fun k _ => h k⟩
  have hlo : (0 : EReal) ≤ Finset.fold max ⊥ (fun k => max (f k) (-(f k))) Finset.univ := by
    rw [Finset.le_fold_max]
    refine Or.inr ⟨0, Finset.mem_univ _, ?_⟩
    rcases le_total 0 (f 0) with h0 | h0
    · exact h0.trans (le_max_left _ _)
    · refine le_trans ?_ (le_max_right _ _)
      rw [EReal.le_neg]
      simpa using h0
  unfold pmax amx
  generalize Finset.fold max ⊥ (fun k => max (f k) (-(f k))) Finset.univ = A at hlo hhi
  induction A with
  | bot => simp at hlo
  | top => exact absurd (EReal.coe_lt_top _) (not_lt.mpr hhi)
  | coe a =>
    have ha0 : 0 ≤ a := by exact_mod_cast hlo
    have ha1 : a ≤ 255 * (2 : ℝ) ^ (120 : ℤ) := by exact_mod_cast hhi
    refine ⟨a * (9586981 * (2 : ℝ) ^ (-32 : ℤ)), by positivity, ?_, ?_⟩
    · calc a * (9586981 * (2 : ℝ) ^ (-32 : ℤ)) ≤ 255 * (2 : ℝ) ^ (120 : ℤ) * (9586981 * (2 : ℝ) ^ (-32 : ℤ)) :=
            mul_le_mul_of_nonneg_right ha1 (by positivity)
        _ < (2 : ℝ) ^ (120 : ℤ) := by norm_num
    · rw [inv448, ← EReal.coe_mul]

/-- The two spellings of the scale of a group of finite bf16 values, and of its inverse, are a power of two and its inverse. -/
theorem group (f : Fin 128 → EReal) (h : ∀ k, max (f k) (-(f k)) ≤ Ideal.ofBits .bf16 0x7F7F#16)
    (hs : amx f = 0 ∨ Ideal.ofBits .f32 0x00800000#32 ≤ pmax f) :
    ∃ e : ℤ, Ideal.ofBits .f32 (IntOp.shli .vector (kE (pmax f)) 23#32) = (((2 : ℝ) ^ e : ℝ) : EReal)
      ∧ Ideal.ofBits .f32 (IntOp.shli .vector (IntOp.subi 254#32 (kE (pmax f))) 23#32) = (((2 : ℝ) ^ (-e) : ℝ) : EReal)
      ∧ Ideal.pow (Ideal.ofBits .f32 0x40000000#32) (rE (amx f) (pmax f)) = (((2 : ℝ) ^ e : ℝ) : EReal)
      ∧ Ideal.pow (Ideal.ofBits .f32 0x40000000#32) (-(rE (amx f) (pmax f))) = (((2 : ℝ) ^ (-e) : ℝ) : EReal) := by
  obtain ⟨P, h0, h1, hP⟩ := pmax_real f h
  have hz : amx f = 0 → P = 0 := by
    intro ha
    unfold pmax at hP
    rw [ha, zero_mul] at hP
    exact_mod_cast hP.symm
  rw [hP, tiny_word, EReal.coe_le_coe_iff] at hs
  obtain ⟨e, h2, h3, h4⟩ := expo (amx f) P h0 h1 hz hs
  rw [hP]
  refine ⟨e, h2, h3, ?_, ?_⟩
  · rw [h4]; exact pow_int e
  · rw [h4, ← pow_int (-e)]
    congr 1
    push_cast
    rfl

/-- A factor that is neither negative nor infinite can be taken out of a sum. -/
theorem sum_mul {ι : Type} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

end Cert.Expo

end
-- ==== Proof.KernAt.lean ====
module

public import proofs.«01_k».proof.Proof.KernelValue
public import proofs.«01_k».proof.Proof.Exp

@[expose] public section

noncomputable section

/-! ## The kernel's payloads at an index -/

namespace Cert.KernelIdeal.Gen

open Idealize.ShloMosaic Cert.Expo

theorem pay3_at (x : Vec Ideal S256x128 .bf16) (r : Fin 256) :
    k0_pay3 (F := Ideal) x (ix2 r 0) = kE (pmax fun k => x (ix2 r k)) := by
  pointwise [k0_pay3, k0_pay2]
  rw [neg_inf_bf16]
  rfl

theorem pay4_at (x : Vec Ideal S256x128 .bf16) (r : Fin 256) :
    k0_pay4 (F := Ideal) x (ix2 r 0) = Ideal.ofBits .f32 (IntOp.shli .vector (kE (pmax fun k => x (ix2 r k))) 23#32) := by
  rw [← pay3_at]
  pointwise [k0_pay4]

theorem pay5_at (x : Vec Ideal S256x128 .bf16) (r : Fin 256) (l : Fin 128) :
    k0_pay5 (F := Ideal) x (ix2 r l) = min (Ideal.ofBits .f32 0x43E00000#32) (max (Ideal.ofBits .f32 0xC3E00000#32)
      (x (ix2 r l) * Ideal.ofBits .f32 (IntOp.shli .vector (IntOp.subi 254#32 (kE (pmax fun k => x (ix2 r k)))) 23#32))) := by
  rw [← pay3_at]
  pointwise [k0_pay5, k0_pay2]

theorem pay8_at (x : Vec Ideal S256x128 .bf16) (r : Fin 256) (l : Fin 128) :
    k0_pay8 (F := Ideal) (k0_pay6 (F := Ideal) x) (k0_pay7 (F := Ideal) x) (ix2 r l) = k0_pay5 (F := Ideal) x (ix2 r l) * k0_pay4 (F := Ideal) x (ix2 r 0) := by
  pointwise [k0_pay8, k0_pay7, k0_pay6]

/-- The products of a group of 128 columns. -/
def grp (xd : Vec Ideal S256x6656 .bf16) (x1 : Vec Ideal S6656x512 .fp8e4m3) (x2 : Vec Ideal S52x36 .f32) (j : Fin 9) (r : Fin 256) (n : Fin 512)
    (g : Fin 52) : EReal :=
  ∑ l : Fin 128, (xd (ix2 r ⟨128 * g.val + l.val, by omega⟩) : EReal)
    * ((x1 (ix2 ⟨128 * g.val + l.val, by omega⟩ n) : EReal) * (x2 (ix2 g ⟨4 * j.val + n.val / 128, by omega⟩) : EReal))

/-- One step of the accumulation adds the products of two groups. -/
theorem stepAt_at (xd : Vec Ideal S256x6656 .bf16) (x1 : Vec Ideal S6656x512 .fp8e4m3) (x2 : Vec Ideal S52x36 .f32) (j : Fin 9) (k : Fin 26)
    (acc : FVec Ideal S256x512 .f32) (r : Fin 256) (n : Fin 512) :
    (stepAt (F := Ideal) xd x1 x2 j k acc (ix2 r n) : EReal) = (acc (ix2 r n) : EReal)
      + (grp xd x1 x2 j r n ⟨2 * k.val, by omega⟩ + grp xd x1 x2 j r n ⟨2 * k.val + 1, by omega⟩) := by
  have hn := n.isLt
  pointwise [stepAt, stepY, wcol, wblk, xY, wY, scY]
  unfold grp
  congr 1
  congr 1
  · refine Finset.sum_congr rfl fun l _ => ?_
    have e1 : (⟨256 * k.val + l.val, by omega⟩ : Fin 6656) = ⟨128 * (2 * k.val) + l.val, by omega⟩ := Fin.ext (by dsimp only; omega)
    congr 1
    · exact congrArg (fun i => xd (ix2 r i)) e1
    · split_ifs <;> exact congrArg₂ (fun p q => x1 (ix2 _ p) * x2 (ix2 _ q)) (Fin.ext (by first | rfl | (dsimp only; omega))) (Fin.ext (by first | rfl | (dsimp only; omega)))
  · refine Finset.sum_congr rfl fun l _ => ?_
    have e1 : (⟨256 * k.val + (128 + l.val), by omega⟩ : Fin 6656) = ⟨128 * (2 * k.val + 1) + l.val, by omega⟩ := Fin.ext (by dsimp only; omega)
    congr 1
    · exact congrArg (fun i => xd (ix2 r i)) e1
    · split_ifs <;> exact congrArg₂ (fun p q => x1 (ix2 _ p) * x2 (ix2 _ q)) (Fin.ext (by first | rfl | (dsimp only; omega))) (Fin.ext (by first | rfl | (dsimp only; omega)))

/-- The accumulator after k steps is the sum over the first 2 k groups. -/
theorem accY_at (xd : Vec Ideal S256x6656 .bf16) (x1 : Vec Ideal S6656x512 .fp8e4m3) (x2 : Vec Ideal S52x36 .f32) (j : Fin 9) (r : Fin 256) (n : Fin 512) :
    ∀ (k : ℕ) (h : k ≤ 26), (accY (F := Ideal) xd x1 x2 j k h (ix2 r n) : EReal)
      = ∑ g : Fin (2 * k), grp xd x1 x2 j r n ⟨g.val, by omega⟩
  | 0, _ => by
    show Ideal.ofBits .f32 0x00000000#32 = _
    simp [Ideal.ofBits, Ideal.ieee]
  | k + 1, h => by
    refine (stepAt_at xd x1 x2 j ⟨k, h⟩ _ r n).trans ?_
    rw [accY_at xd x1 x2 j r n k (by omega)]
    refine Eq.trans ?_ (Fin.sum_univ_castSucc (n := 2 * k + 1) (fun g => grp xd x1 x2 j r n ⟨g.val, by omega⟩)).symm
    rw [Fin.sum_univ_castSucc, add_assoc]
    rfl

theorem Yblk_at (xd : Vec Ideal S256x6656 .bf16) (x1 : Vec Ideal S6656x512 .fp8e4m3) (x2 : Vec Ideal S52x36 .f32) (j : Fin 9) (r : Fin 256) (n : Fin 512) :
    (Yblk (F := Ideal) xd x1 x2 j (ix2 r n) : EReal) = ∑ g : Fin 52, grp xd x1 x2 j r n g :=
  accY_at xd x1 x2 j r n 26 (le_refl _)

end Cert.KernelIdeal.Gen

end
-- ==== Proof.RefAt.lean ====
module

public import proofs.«01_k».proof.Proof.RefValue
public import proofs.«01_k».proof.Proof.Exp

@[expose] public section

noncomputable section

/-! ## The reference's results at an index -/

namespace Cert.ReferenceIdeal.Value

open Cert.ReferenceIdeal Cert.ReferenceIdeal.Gen Idealize.ShloMosaic Cert.Expo

theorem rX_at (a0 : Vec Ideal S256x1x6656 .bf16) (r : Fin 256) (g : Fin 52) (k : Fin 128) :
    rX (F := Ideal) a0 (ix3 r g k) = a0 (ix3 r 0 ⟨g.val * 128 + k.val, by omega⟩) := by
  pointwise [rX]

theorem aOf_at (x : FVec Ideal S256x52x128 .f32) (r : Fin 256) (g : Fin 52) :
    aOf (F := Ideal) x (ix2 r g) = amx fun k => x (ix3 r g k) := by
  pointwise [aOf]
  rw [neg_inf_f32]
  rfl

theorem eOf_at (a : FVec Ideal S256x52 .f32) (i : S256x52.Idx) :
    eOf (F := Ideal) a i = Cert.Expo.rE (a i) ((a i : EReal) * Ideal.ofBits .f32 0x3B124925#32) := by
  pointwise [eOf, Cert.Expo.rE]
  simp [constant]

theorem pow_at (x : FVec Ideal S256x52 .f32) (i : S256x52.Idx) :
    Host.powf (broadcastInDim S256x52 ![] bcast_S_S256x52 (constant S_ .f32 0x40000000#32)) x i
      = Ideal.pow (Ideal.ofBits .f32 0x40000000#32) (x i) := by
  pointwise

theorem qOf_at (x : FVec Ideal S256x52x128 .f32) (v : FVec Ideal S256x52 .f32) (r : Fin 256) (d : Fin 6656) :
    qOf (F := Ideal) x v (ix2 r d) = min (Ideal.ofBits .f32 0x43E00000#32) (max (Ideal.ofBits .f32 0xC3E00000#32)
      (x (ix3 r ⟨d.val / 128, by omega⟩ ⟨d.val % 128, by omega⟩) * v (ix2 r ⟨d.val / 128, by omega⟩))) := by
  pointwise [qOf]
  rfl

theorem pay1_at (q : Vec Ideal S256x6656 .fp8e4m3) (w : Vec Ideal S6656x4608 .fp8e4m3) (xs : Vec Ideal S256x52 .f32) (ws : Vec Ideal S52x36 .f32)
    (r : Fin 256) (n : Fin 4608) :
    k0_pay1 (F := Ideal) q w xs ws (ix2 r n) = ∑ g : Fin 52, (∑ l : Fin 128, q (ix2 r ⟨g.val * 128 + l.val, by omega⟩) * w (ix2 ⟨g.val * 128 + l.val, by omega⟩ n))
      * xs (ix2 r g) * ws (ix2 g ⟨n.val / 128, by omega⟩) := by
  pointwise [k0_pay1]

end Cert.ReferenceIdeal.Value

end
-- ==== Proof.Agree.lean ====
module

public import proofs.«01_k».proof.Proof.KernAt
public import proofs.«01_k».proof.Proof.RefAt

@[expose] public section

noncomputable section

/-! ## The results of the two programs agree -/

namespace Cert.Agree

open Idealize.ShloMosaic Cert.Expo

open Cert.KernelIdeal Cert.KernelIdeal.Gen

/-- The entries of row r and group g. -/
def ent (a0 : Vec Ideal S256x1x6656 .bf16) (r : Fin 256) (g : Fin 52) : Fin 128 → EReal :=
  fun k => a0 (ix3 r 0 ⟨128 * g.val + k.val, by omega⟩)

theorem xgrp_ent (a0 : Vec Ideal S256x1x6656 .bf16) (r : Fin 256) (g : Fin 52) :
    (fun k => xgrp (F := Ideal) (xMat a0) g (ix2 r k)) = ent a0 r g := rfl

theorem rX_ent (a0 : Vec Ideal S256x1x6656 .bf16) (r : Fin 256) (g : Fin 52) :
    (fun k => Cert.ReferenceIdeal.Value.rX (F := Ideal) a0 (ix3 r g k)) = ent a0 r g := by
  funext k
  rw [Cert.ReferenceIdeal.Value.rX_at]
  exact congrArg (fun i => a0 (ix3 r 0 i)) (Fin.ext (by dsimp only; omega))

variable (a0 : Vec Ideal S256x1x6656 .bf16) (a1 : Vec Ideal S6656x4608 .fp8e4m3) (a2 : Vec Ideal S52x36 .f32)

theorem scale_kernel (r : Fin 256) (g : Fin 52) :
    SCALE (F := Ideal) (xMat a0) (ix2 r g) = Ideal.ofBits .f32 (IntOp.shli .vector (kE (pmax (ent a0 r g))) 23#32) :=
  pay4_at (xgrp (xMat a0) g) r

theorem codes_kernel (r : Fin 256) (d : Fin 6656) :
    CODES (F := Ideal) (xMat a0) (ix2 r d) = min (Ideal.ofBits .f32 0x43E00000#32) (max (Ideal.ofBits .f32 0xC3E00000#32)
      (ent a0 r ⟨d.val / 128, by omega⟩ ⟨d.val % 128, by omega⟩
        * Ideal.ofBits .f32 (IntOp.shli .vector (IntOp.subi 254#32 (kE (pmax (ent a0 r ⟨d.val / 128, by omega⟩)))) 23#32))) :=
  pay5_at (xgrp (xMat a0) ⟨d.val / 128, by omega⟩) r ⟨d.val % 128, by omega⟩

theorem xd_kernel (r : Fin 256) (d : Fin 6656) :
    (XD (F := Ideal) (xMat a0) (ix2 r d) : EReal) = (CODES (F := Ideal) (xMat a0) (ix2 r d) : EReal)
      * (SCALE (F := Ideal) (xMat a0) (ix2 r ⟨d.val / 128, by omega⟩) : EReal) :=
  pay8_at (xgrp (xMat a0) ⟨d.val / 128, by omega⟩) r ⟨d.val % 128, by omega⟩

theorem exponent_reference (r : Fin 256) (g : Fin 52) :
    (Cert.ReferenceIdeal.Value.rE (F := Ideal) a0 (ix2 r g) : EReal) = Cert.Expo.rE (amx (ent a0 r g)) (pmax (ent a0 r g)) := by
  unfold Cert.ReferenceIdeal.Value.rE
  rw [Cert.ReferenceIdeal.Value.eOf_at, Cert.ReferenceIdeal.Value.aOf_at, rX_ent]
  rfl

theorem scale_reference (r : Fin 256) (g : Fin 52) :
    (Cert.ReferenceIdeal.Value.rScale (F := Ideal) a0 (ix2 r g) : EReal)
      = Ideal.pow (Ideal.ofBits .f32 0x40000000#32) (Cert.Expo.rE (amx (ent a0 r g)) (pmax (ent a0 r g))) := by
  unfold Cert.ReferenceIdeal.Value.rScale
  rw [Cert.ReferenceIdeal.Value.pow_at, exponent_reference]

theorem inverse_reference (r : Fin 256) (g : Fin 52) :
    (Cert.ReferenceIdeal.Value.rInv (F := Ideal) a0 (ix2 r g) : EReal)
      = Ideal.pow (Ideal.ofBits .f32 0x40000000#32) (-(Cert.Expo.rE (amx (ent a0 r g)) (pmax (ent a0 r g)))) := by
  unfold Cert.ReferenceIdeal.Value.rInv
  rw [Cert.ReferenceIdeal.Value.pow_at, ← exponent_reference]
  generalize Cert.ReferenceIdeal.Value.rE (F := Ideal) a0 = e
  rfl

theorem codes_reference (r : Fin 256) (d : Fin 6656) :
    (Cert.ReferenceIdeal.Value.rQ (F := Ideal) a0 (ix2 r d) : EReal) = min (Ideal.ofBits .f32 0x43E00000#32) (max (Ideal.ofBits .f32 0xC3E00000#32)
      (ent a0 r ⟨d.val / 128, by omega⟩ ⟨d.val % 128, by omega⟩
        * Ideal.pow (Ideal.ofBits .f32 0x40000000#32) (-(Cert.Expo.rE (amx (ent a0 r ⟨d.val / 128, by omega⟩)) (pmax (ent a0 r ⟨d.val / 128, by omega⟩)))))) := by
  unfold Cert.ReferenceIdeal.Value.rQ
  rw [Cert.ReferenceIdeal.Value.qOf_at, inverse_reference]
  rw [← congrFun (rX_ent a0 r ⟨d.val / 128, by omega⟩) ⟨d.val % 128, by omega⟩]

variable (hx : ∀ i, max (a0 i : EReal) (-(a0 i : EReal)) ≤ Ideal.ofBits .bf16 0x7F7F#16)
  (hs : ∀ r g, amx (ent a0 r g) = 0 ∨ Ideal.ofBits .f32 0x00800000#32 ≤ pmax (ent a0 r g))
  (hw : ∀ i, (0 : EReal) ≤ a2 i ∧ (a2 i : EReal) ≠ ⊤)

include hx hs in
theorem scale_at (r : Fin 256) (g : Fin 52) :
    SCALE (F := Ideal) (xMat a0) (ix2 r g) = Cert.ReferenceIdeal.Value.rScale (F := Ideal) a0 (ix2 r g) := by
  obtain ⟨e, h1, h2, h3, h4⟩ := group (ent a0 r g) (fun k => hx _) (hs _ _)
  exact ((scale_kernel a0 r g).trans h1).trans ((scale_reference a0 r g).trans h3).symm

include hx hs in
theorem codes_at (r : Fin 256) (d : Fin 6656) :
    CODES (F := Ideal) (xMat a0) (ix2 r d) = Cert.ReferenceIdeal.Value.rQ (F := Ideal) a0 (ix2 r d) := by
  obtain ⟨e, h1, h2, h3, h4⟩ := group (ent a0 r ⟨d.val / 128, by omega⟩) (fun k => hx _) (hs _ _)
  refine (codes_kernel a0 r d).trans (Eq.trans ?_ (codes_reference a0 r d).symm)
  rw [h2, h4]

include hx hs in
/-- The scales agree. -/
theorem scale_eq : SCALE (F := Ideal) (xMat a0) = Cert.ReferenceIdeal.Value.rScale (F := Ideal) a0 := by
  funext y
  rw [ValueIdx.eq_ix2 y]
  exact scale_at a0 hx hs _ _

include hx hs in
/-- The codes agree. -/
theorem codes_eq : CODES (F := Ideal) (xMat a0) = Cert.ReferenceIdeal.Value.rQ (F := Ideal) a0 := by
  funext y
  rw [ValueIdx.eq_ix2 y]
  exact codes_at a0 hx hs _ _

include hx hs hw in
/-- The products agree: a group's scales come out of its sum. -/
theorem y_eq : resY (F := Ideal) a0 a1 a2 = Cert.ReferenceIdeal.Value.rY (F := Ideal) a0 a1 a2 := by
  funext y
  rw [ValueIdx.eq_ix2 y]
  generalize y 0 = r
  generalize y 1 = n
  change Fin 256 at r
  change Fin 4608 at n
  refine Eq.trans (Yblk_at _ _ _ _ _ _) (Eq.trans ?_ (Cert.ReferenceIdeal.Value.pay1_at _ _ _ _ r n).symm)
  refine Finset.sum_congr rfl fun g _ => ?_
  obtain ⟨e, h1, h2, h3, h4⟩ := group (ent a0 r g) (fun k => hx _) (hs _ _)
  have he := (scale_reference a0 r g).trans h3
  have hn := n.isLt
  have hp : (0 : EReal) ≤ (((2 : ℝ) ^ e : ℝ) : EReal) := EReal.coe_nonneg.mpr (by positivity)
  rw [he, sum_mul _ _ _ hp (EReal.coe_ne_top _), sum_mul _ _ _ (hw _).1 (hw _).2]
  unfold grp
  refine Finset.sum_congr rfl fun l _ => ?_
  rw [xd_kernel, codes_at a0 hx hs, scale_at a0 hx hs]
  have eg : (⟨(128 * g.val + l.val) / 128, by omega⟩ : Fin 52) = g := Fin.ext (by dsimp only; omega)
  have ed : (⟨128 * g.val + l.val, by omega⟩ : Fin 6656) = ⟨g.val * 128 + l.val, by omega⟩ := Fin.ext (by dsimp only; omega)
  have en : (⟨512 * (n.val / 512) + n.val % 512, by omega⟩ : Fin 4608) = n := Fin.ext (by dsimp only; omega)
  have eq : (⟨4 * (n.val / 512) + n.val % 512 / 128, by omega⟩ : Fin 36) = ⟨n.val / 128, by omega⟩ := Fin.ext (by dsimp only; omega)
  rw [eg, he]
  show _ * ((a1 (ix2 ⟨128 * g.val + l.val, by omega⟩ ⟨512 * (n.val / 512) + n.val % 512, by omega⟩) : EReal)
    * (a2 (ix2 g ⟨4 * (n.val / 512) + n.val % 512 / 128, by omega⟩) : EReal)) = _
  rw [ed, en, eq, mul_mul_mul_comm, ← mul_assoc]

end Cert.Agree

end
-- ==== Proof.Pre.lean ====
module

public import proofs.«01_k».proof.Proof.Exp
public import proofs.«01_k».proof.Proof.Gen.Pre_finite
public import Idealize.ShloMosaic.Lib.ReduceAll
public import Idealize.ShloMosaic.Lib.Pipeline.ValueKit

@[expose] public section

noncomputable section

/-! ## The precondition -/

namespace Cert.Agree

open Idealize.ShloMosaic Cert.Expo

theorem of_ofBool {b : Bool} (h : BitVec.ofBool b = 1#1) : b = true := by
  revert h
  cases b <;> decide

/-- The largest magnitude of each group. -/
def preA (a0 : FVec Ideal Cert.Pre_finite.S256x1x6656 .bf16) : FVec Ideal Cert.Pre_finite.S256x52 .f32 :=
  Host.reduce FloatOps.maximumf (Host.absf (shapeCast Cert.Pre_finite.S256x52x128 (extf .f32 a0 Cert.Pre_finite.Facts.bitsLt_bf16_f32)
    Cert.Pre_finite.Facts.shapeCasts_S256x1x6656_S256x52x128)) (constant Cert.Pre_finite.S_ .f32 0xFF800000#32)
    Cert.Pre_finite.Facts.reducesTo_S256x52x128_S256x52_d2 Cert.Pre_finite.Facts.h_S_

theorem preA_at (a0 : FVec Ideal Cert.Pre_finite.S256x1x6656 .bf16) (r : Fin 256) (g : Fin 52) :
    preA a0 (ix2 r g) = amx fun k => a0 (ix3 r 0 ⟨128 * g.val + k.val, by omega⟩) := by
  have e : (fun k : Fin 128 => (a0 (ix3 r 0 ⟨128 * g.val + k.val, by omega⟩) : EReal)) = fun k => a0 (ix3 r 0 ⟨g.val * 128 + k.val, by omega⟩) := by
    funext k
    exact congrArg (fun i => a0 (ix3 r 0 i)) (Fin.ext (by dsimp only; omega))
  rw [e]
  pointwise [preA]
  rw [neg_inf_f32]
  rfl

theorem ori_eq_one {a b : BitVec 1} (h : IntOp.ori a b = 1#1) : a = 1#1 ∨ b = 1#1 := by
  revert h
  revert a b
  decide

/-- What the test of a group says: its largest magnitude is 0, or is not too small when scaled. -/
theorem scaled_at (A : FVec Ideal Cert.Pre_finite.S256x52 .f32) (i : Cert.Pre_finite.S256x52.Idx)
    (h : ori (cmpf .oeq A (broadcastInDim Cert.Pre_finite.S256x52 ![] Cert.Pre_finite.Facts.bcast_S_S256x52 (constant Cert.Pre_finite.S_ .f32 0x00000000#32)))
      (cmpf .oge (mulf A (broadcastInDim Cert.Pre_finite.S256x52 ![] Cert.Pre_finite.Facts.bcast_S_S256x52 (constant Cert.Pre_finite.S_ .f32 0x3B124925#32)))
        (broadcastInDim Cert.Pre_finite.S256x52 ![] Cert.Pre_finite.Facts.bcast_S_S256x52 (constant Cert.Pre_finite.S_ .f32 0x00800000#32))) i = 1#1) :
    (A i : EReal) = 0 ∨ Ideal.ofBits .f32 0x00800000#32 ≤ (A i : EReal) * Ideal.ofBits .f32 0x3B124925#32 := by
  have hz : Ideal.ofBits .f32 0x00000000#32 = 0 := by simp [Ideal.ofBits, Ideal.ieee]
  rcases ori_eq_one h with ha | ha
  · change Ideal.cmp .oeq (A i) (Ideal.ofBits .f32 0x00000000#32) = 1#1 at ha
    rw [hz] at ha
    exact Or.inl (of_decide_eq_true (of_ofBool ha))
  · change Ideal.cmp .oge ((A i : EReal) * Ideal.ofBits .f32 0x3B124925#32) (Ideal.ofBits .f32 0x00800000#32) = 1#1 at ha
    exact Or.inr (of_decide_eq_true (of_ofBool ha))

/-- What the precondition says of the entries. -/
theorem pre_spec (a0 : FVec Ideal Cert.Pre_finite.S256x1x6656 .bf16) (a1 : FVec Ideal Cert.Pre_finite.S6656x4608 .fp8e4m3)
    (a2 : FVec Ideal Cert.Pre_finite.S52x36 .f32) (h : Cert.Pre_finite.fn (F := Ideal) a0 a1 a2 = fun _ => 1#1) :
    (∀ i, max (a0 i : EReal) (-(a0 i : EReal)) ≤ Ideal.ofBits .bf16 0x7F7F#16)
      ∧ (∀ (r : Fin 256) (g : Fin 52), amx (fun k => a0 (ix3 r 0 ⟨128 * g.val + k.val, by omega⟩)) = 0
        ∨ Ideal.ofBits .f32 0x00800000#32 ≤ pmax fun k => a0 (ix3 r 0 ⟨128 * g.val + k.val, by omega⟩))
      ∧ ∀ i, (0 : EReal) ≤ a2 i ∧ (a2 i : EReal) ≠ ⊤ := by
  have h0 := congrFun h ValueIdx.ix0
  unfold Cert.Pre_finite.fn Cert.Pre_finite.fn_part1 at h0
  obtain ⟨hxg, hw⟩ := IntOp.andi_eq_one.mp h0
  obtain ⟨hx, hg⟩ := IntOp.andi_eq_one.mp hxg
  have hz : Ideal.ofBits .f32 0x00000000#32 = 0 := by simp [Ideal.ofBits, Ideal.ieee]
  refine ⟨fun i => ?_, fun r g => ?_, fun i => ?_⟩
  · have := Host.reduce_andi_all _ _ _ _ _ hx i
    change Ideal.cmp .ole (max (a0 i : EReal) (-(a0 i : EReal))) (Ideal.ofBits .bf16 0x7F7F#16) = 1#1 at this
    exact of_decide_eq_true (of_ofBool this)
  · have := Host.reduce_andi_all _ _ _ _ _ hg (ix2 r g)
    unfold pmax
    rw [← preA_at]
    exact scaled_at (preA a0) _ this
  · have := Host.reduce_andi_all _ _ _ _ _ hw i
    obtain ⟨ha, hb⟩ := IntOp.andi_eq_one.mp this
    change Ideal.cmp .oge (a2 i) (Ideal.ofBits .f32 0x00000000#32) = 1#1 at ha
    change Ideal.cmp .olt (a2 i) (Ideal.ofBits .f32 0x7F800000#32) = 1#1 at hb
    rw [pos_inf_f32] at hb
    rw [hz] at ha
    constructor
    · exact of_decide_eq_true (of_ofBool ha)
    · have : (a2 i : EReal) < ⊤ := of_decide_eq_true (of_ofBool hb)
      exact this.ne

end Cert.Agree

end
-- ==== Proof.Same.lean ====
module

public import proofs.«01_k».proof.Defs
public import proofs.«01_k».proof.Proof.Run
public import proofs.«01_k».proof.Proof.Gen.Kernel

@[expose] public section

set_option maxRecDepth 100000
set_option maxHeartbeats 4000000
set_option backward.isDefEq.respectTransparency.types false
set_option backward.isDefEq.respectTransparency false

noncomputable section

/-! ## The kernel and its idealization are one program

The idealization rewrote nothing, so the two print the same definitions: what holds of a run of one at every reading of
the floats holds of the other. -/

namespace Cert.Proof

open Idealize.ShloMosaic Idealize.SL.Sem

attribute [local instance] Cert.Kernel.Gen.facts Cert.KernelIdeal.Gen.facts

variable {F : FTy → Type} [FloatOps F]

theorem body_eq : @Cert.Kernel.cc0_fp8_linear F _ _ = @Cert.KernelIdeal.cc0_fp8_linear F _ _ := rfl

theorem defs₀_eq : Cert.Kernel.defs₀ (F := F) = Cert.KernelIdeal.defs₀ (F := F) := by
  refine congrArg Defs.onTc (funext fun ℓ => funext fun a => ?_)
  match ℓ with
  | ⟨0, _⟩ => rfl
  | ⟨_ + 1, h⟩ => exact absurd h (Nat.not_lt.2 (Nat.le_add_left _ _))

theorem defs_eq : Cert.Kernel.defs (F := F) = Cert.KernelIdeal.defs (F := F) :=
  congrArg (Pipeline.defs (Cert.Kernel.pcfgs (F := F))) defs₀_eq

theorem main_eq : Cert.Kernel.main (F := F) = Cert.KernelIdeal.main (F := F) := rfl

/-- The kernel's frame is its idealization's: the two are the same program. -/
theorem frame_kernel : quiescent_Kernel (hKernel := Cert.Kernel.Gen.facts) := by
  intro m ρ _
  rw [defs_eq, main_eq]
  exact Cert.KernelIdeal.Gen.frame m ρ

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Tail
public import proofs.«01_k».proof.Proof.Run
public import proofs.«01_k».proof.Proof.KernelValue
public import proofs.«01_k».proof.Proof.RefValue
public import proofs.«01_k».proof.Proof.Agree
public import proofs.«01_k».proof.Proof.Pre
public import proofs.«01_k».proof.Proof.Same
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The kernel and the reference leave the same three results. -/
theorem agree : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨_, _, _, Cert.KernelIdeal.Gen.kernel_run m g, (θ_run _ _ _).mono (fun r h c => ?_) (Cert.ReferenceIdeal.Value.reference_run m' g')⟩
  obtain ⟨hx, hs, hw⟩ := Cert.Agree.pre_spec _ _ _ (hp c)
  obtain ⟨e0, e1, e2⟩ := ha c
  obtain ⟨r0, r1, r2, r3⟩ := h c
  rw [e0, e1, e2] at r0
  rw [e0] at r1 r2
  exact ⟨r0.trans (Cert.Agree.y_eq _ _ _ hx hs hw).symm, r1.trans (Cert.Agree.codes_eq _ hx hs).symm, r2.trans (Cert.Agree.scale_eq _ hx hs).symm, r3⟩

theorem claim : Cert.Claim := ⟨Cert.Kernel.Gen.facts, Cert.KernelIdeal.Gen.facts, Cert.ReferenceIdeal.Gen.facts, Cert.Pre_finite.Gen.facts,
  frame_kernel, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, agree⟩

end Cert.Proof

end
